-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_maxima_KernelIdeal [hPre_finite_row_maxima_KernelIdeal : Cert.Pre_finite_row_maxima_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_maxima_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_maxima_ReferenceIdeal [hPre_finite_row_maxima_ReferenceIdeal : Cert.Pre_finite_row_maxima_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_maxima_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_maxima_KernelIdeal [hKernelIdeal : Cert.KernelIdeal.Facts] [hPre_finite_row_maxima_KernelIdeal : Cert.Pre_finite_row_maxima_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_maxima_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_maxima_ReferenceIdeal [hReferenceIdeal : Cert.ReferenceIdeal.Facts] [hPre_finite_row_maxima_ReferenceIdeal : Cert.Pre_finite_row_maxima_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_maxima_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_maxima_KernelIdeal [hKernelIdeal : Cert.KernelIdeal.Facts] [hReferenceIdeal : Cert.ReferenceIdeal.Facts] [hPre_finite_row_maxima_KernelIdeal : Cert.Pre_finite_row_maxima_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_maxima_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_maxima_KernelIdeal : Cert.Pre_finite_row_maxima_KernelIdeal.Facts) (hPre_finite_row_maxima_ReferenceIdeal : Cert.Pre_finite_row_maxima_ReferenceIdeal.Facts),
    quiescent_Kernel (hKernel := hKernel)
    ∧ quiescent_KernelIdeal (hKernelIdeal := hKernelIdeal)
    ∧ quiescent_KernelIdeal_pre_finite_row_maxima_KernelIdeal (hKernelIdeal := hKernelIdeal) (hPre_finite_row_maxima_KernelIdeal := hPre_finite_row_maxima_KernelIdeal)
    ∧ quiescent_ReferenceIdeal (hReferenceIdeal := hReferenceIdeal)
    ∧ quiescent_ReferenceIdeal_pre_finite_row_maxima_ReferenceIdeal (hReferenceIdeal := hReferenceIdeal) (hPre_finite_row_maxima_ReferenceIdeal := hPre_finite_row_maxima_ReferenceIdeal)
    ∧ preserves_Kernel_KernelIdeal
    ∧ algebraic_KernelIdeal_ReferenceIdeal_pre_finite_row_maxima_KernelIdeal (hKernelIdeal := hKernelIdeal) (hReferenceIdeal := hReferenceIdeal) (hPre_finite_row_maxima_KernelIdeal := hPre_finite_row_maxima_KernelIdeal)
-- ==== Pre_finite_row_maxima_KernelIdeal.lean ====
abbrev S1024x1024 : Shape := ⟨2, ![1024, 1024]⟩
abbrev S_ : Shape := ⟨0, ![]⟩
abbrev S1024 : Shape := ⟨1, ![1024]⟩

class Facts : Prop where
  reducesTo_S1024x1024_S1024_d1 : S1024x1024.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x1024 .f32) : IVec S1024 1 :=
  let main_cst : FVec F S_ .f32 := constant S_ .f32 0xFF800000#32
  let main_v0 : FVec F S1024 .f32 := (fun x v => Host.reduce FloatOps.maximumf x v reducesTo_S1024x1024_S1024_d1 h_S_) main_arg0 main_cst
  let main_cst_0 : FVec F S_ .f32 := constant S_ .f32 0xFF800000#32
  let main_v1 : FVec F S1024 .f32 := broadcastInDim S1024 ![] bcast_S_S1024 main_cst_0
  let main_v2 : IVec S1024 1 := cmpf .ogt main_v0 main_v1
  let main_cst_1 : FVec F S_ .f32 := constant S_ .f32 0x7F800000#32
  let main_v3 : FVec F S1024 .f32 := broadcastInDim S1024 ![] bcast_S_S1024 main_cst_1
  let main_v4 : IVec S1024 1 := cmpf .olt main_v0 main_v3
  let main_v5 : IVec S1024 1 := andi main_v2 main_v4
  main_v5
-- ==== Pre_finite_row_maxima_ReferenceIdeal.lean ====
abbrev S1024x16384 : Shape := ⟨2, ![1024, 16384]⟩
abbrev S_ : Shape := ⟨0, ![]⟩
abbrev S1024 : Shape := ⟨1, ![1024]⟩

class Facts : Prop where
  reducesTo_S1024x16384_S1024_d1 : S1024x16384.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x16384 .f32) : IVec S1024 1 :=
  let main_cst : FVec F S_ .f32 := constant S_ .f32 0xFF800000#32
  let main_v0 : FVec F S1024 .f32 := (fun x v => Host.reduce FloatOps.maximumf x v reducesTo_S1024x16384_S1024_d1 h_S_) main_arg0 main_cst
  let main_cst_0 : FVec F S_ .f32 := constant S_ .f32 0xFF800000#32
  let main_v1 : FVec F S1024 .f32 := broadcastInDim S1024 ![] bcast_S_S1024 main_cst_0
  let main_v2 : IVec S1024 1 := cmpf .ogt main_v0 main_v1
  let main_cst_1 : FVec F S_ .f32 := constant S_ .f32 0x7F800000#32
  let main_v3 : FVec F S1024 .f32 := broadcastInDim S1024 ![] bcast_S_S1024 main_cst_1
  let main_v4 : IVec S1024 1 := cmpf .olt main_v0 main_v3
  let main_v5 : IVec S1024 1 := andi main_v2 main_v4
  main_v5
-- ==== Kernel.lean ====
abbrev S1024x1024 : Shape := ⟨2, ![1024, 1024]⟩
abbrev S2x1024 : Shape := ⟨2, ![2, 1024]⟩
abbrev S16x2x1024 : Shape := ⟨3, ![16, 2, 1024]⟩
abbrev S16 : Shape := ⟨1, ![16]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S1 : Shape := ⟨1, ![1]⟩
abbrev S1x2x1024 : Shape := ⟨3, ![1, 2, 1024]⟩
abbrev S16x1x1024 : Shape := ⟨3, ![16, 1, 1024]⟩
abbrev S16x1024 : Shape := ⟨2, ![16, 1024]⟩
abbrev S1x1024 : Shape := ⟨2, ![1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S2x1024, .f32⟩
  | .local _ .vmem, ⟨4, _⟩ => ⟨S16x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_60 : BitVec 32 := 0#32
  let c0_i32_61 : BitVec 32 := 0#32
  ![v2.toNat, 0, 0]
def k0_dev17 : Nat :=
  let c0_i32_59 : BitVec 32 := 0#32
  let c0_i32_57 : BitVec 32 := 0#32
  let c1_i32_58 : BitVec 32 := 1#32
  let v53 : BitVec 32 := Scalar.muli c0_i32_57 c1_i32_58
  let v54 : BitVec 32 := Scalar.addi c0_i32_59 v53
  v54.toNat
def k0_dev18 : Nat :=
  let c0_i32_65 : BitVec 32 := 0#32
  let c1_i32_63 : BitVec 32 := 1#32
  let c1_i32_64 : BitVec 32 := 1#32
  let v61 : BitVec 32 := Scalar.muli c1_i32_63 c1_i32_64
  let v62 : BitVec 32 := Scalar.addi c0_i32_65 v61
  v62.toNat
def k0_dev19 : Nat :=
  let c0_i32_71 : BitVec 32 := 0#32
  let c2_i32_69 : BitVec 32 := 2#32
  let c1_i32_70 : BitVec 32 := 1#32
  let v69 : BitVec 32 := Scalar.muli c2_i32_69 c1_i32_70
  let v70 : BitVec 32 := Scalar.addi c0_i32_71 v69
  v70.toNat
def k0_dev20 : Nat :=
  let c0_i32_77 : BitVec 32 := 0#32
  let c3_i32_75 : BitVec 32 := 3#32
  let c1_i32_76 : BitVec 32 := 1#32
  let v77 : BitVec 32 := Scalar.muli c3_i32_75 c1_i32_76
  let v78 : BitVec 32 := Scalar.addi c0_i32_77 v77
  v78.toNat
def k0_dev21 : Nat :=
  let c0_i32_83 : BitVec 32 := 0#32
  let c4_i32_81 : BitVec 32 := 4#32
  let c1_i32_82 : BitVec 32 := 1#32
  let v85 : BitVec 32 := Scalar.muli c4_i32_81 c1_i32_82
  let v86 : BitVec 32 := Scalar.addi c0_i32_83 v85
  v86.toNat
def k0_dev22 : Nat :=
  let c0_i32_89 : BitVec 32 := 0#32
  let c5_i32_87 : BitVec 32 := 5#32
  let c1_i32_88 : BitVec 32 := 1#32
  let v93 : BitVec 32 := Scalar.muli c5_i32_87 c1_i32_88
  let v94 : BitVec 32 := Scalar.addi c0_i32_89 v93
  v94.toNat
def k0_dev23 : Nat :=
  let c0_i32_95 : BitVec 32 := 0#32
  let c6_i32_93 : BitVec 32 := 6#32
  let c1_i32_94 : BitVec 32 := 1#32
  let v101 : BitVec 32 := Scalar.muli c6_i32_93 c1_i32_94
  let v102 : BitVec 32 := Scalar.addi c0_i32_95 v101
  v102.toNat
def k0_dev24 : Nat :=
  let c0_i32_101 : BitVec 32 := 0#32
  let c7_i32_99 : BitVec 32 := 7#32
  let c1_i32_100 : BitVec 32 := 1#32
  let v109 : BitVec 32 := Scalar.muli c7_i32_99 c1_i32_100
  let v110 : BitVec 32 := Scalar.addi c0_i32_101 v109
  v110.toNat
def k0_dev25 : Nat :=
  let c0_i32_107 : BitVec 32 := 0#32
  let c8_i32_105 : BitVec 32 := 8#32
  let c1_i32_106 : BitVec 32 := 1#32
  let v117 : BitVec 32 := Scalar.muli c8_i32_105 c1_i32_106
  let v118 : BitVec 32 := Scalar.addi c0_i32_107 v117
  v118.toNat
def k0_dev26 : Nat :=
  let c0_i32_113 : BitVec 32 := 0#32
  let c9_i32_111 : BitVec 32 := 9#32
  let c1_i32_112 : BitVec 32 := 1#32
  let v125 : BitVec 32 := Scalar.muli c9_i32_111 c1_i32_112
  let v126 : BitVec 32 := Scalar.addi c0_i32_113 v125
  v126.toNat
def k0_dev27 : Nat :=
  let c0_i32_119 : BitVec 32 := 0#32
  let c10_i32_117 : BitVec 32 := 10#32
  let c1_i32_118 : BitVec 32 := 1#32
  let v133 : BitVec 32 := Scalar.muli c10_i32_117 c1_i32_118
  let v134 : BitVec 32 := Scalar.addi c0_i32_119 v133
  v134.toNat
def k0_dev28 : Nat :=
  let c0_i32_125 : BitVec 32 := 0#32
  let c11_i32_123 : BitVec 32 := 11#32
  let c1_i32_124 : BitVec 32 := 1#32
  let v141 : BitVec 32 := Scalar.muli c11_i32_123 c1_i32_124
  let v142 : BitVec 32 := Scalar.addi c0_i32_125 v141
  v142.toNat
def k0_dev29 : Nat :=
  let c0_i32_131 : BitVec 32 := 0#32
  let c12_i32_129 : BitVec 32 := 12#32
  let c1_i32_130 : BitVec 32 := 1#32
  let v149 : BitVec 32 := Scalar.muli c12_i32_129 c1_i32_130
  let v150 : BitVec 32 := Scalar.addi c0_i32_131 v149
  v150.toNat
def k0_dev30 : Nat :=
  let c0_i32_137 : BitVec 32 := 0#32
  let c13_i32_135 : BitVec 32 := 13#32
  let c1_i32_136 : BitVec 32 := 1#32
  let v157 : BitVec 32 := Scalar.muli c13_i32_135 c1_i32_136
  let v158 : BitVec 32 := Scalar.addi c0_i32_137 v157
  v158.toNat
def k0_dev31 : Nat :=
  let c0_i32_143 : BitVec 32 := 0#32
  let c14_i32_141 : BitVec 32 := 14#32
  let c1_i32_142 : BitVec 32 := 1#32
  let v165 : BitVec 32 := Scalar.muli c14_i32_141 c1_i32_142
  let v166 : BitVec 32 := Scalar.addi c0_i32_143 v165
  v166.toNat
def k0_dev32 : Nat :=
  let c0_i32_149 : BitVec 32 := 0#32
  let c15_i32_147 : BitVec 32 := 15#32
  let c1_i32_148 : BitVec 32 := 1#32
  let v173 : BitVec 32 := Scalar.muli c15_i32_147 c1_i32_148
  let v174 : BitVec 32 := Scalar.addi c0_i32_149 v173
  v174.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x16384 : Shape := ⟨2, ![1024, 16384]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x16384, .f32⟩
  | .hbm, ⟨11, _⟩ => ⟨S1024x16384, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Ideal.Loop.lean ====
/-
# The kernel's body as loops over the devices

The printed body unrolls three families of sixteen steps each: the barrier signals, the remote copies, the waits of the
landings, and the waits of the departures. This module names one step of each family and states that the body is those
steps run along the list of the devices, so that one proof per family covers all sixteen.
-/
module

public import proofs.«01_k».proof.Proof.Gen.KernelIdeal
public import proofs.«01_k».proof.Proof.Gen.KernelIdeal.Skeleton

@[expose] public section

noncomputable section

namespace Cert.KernelIdeal.Proto

open Cert.KernelIdeal Cert.KernelIdeal.Gen
open Idealize.ShloMosaic Idealize.ShloMosaic.TcCoe Idealize.SL.Sem

variable {F : FTy → Type} [FloatOps F]

/-! ## The memrefs and the semaphores -/

/-- The staged block of the operand, -/
abbrev xM : Memref sig .tc .vmem S1024x1024 .f32 := Memref.whole cc0_stg0_0
/-- the staged block of the result, -/
abbrev oM : Memref sig .tc .vmem S1024x1024 .f32 := Memref.whole cc0_stg1_0
/-- the shifted exponentials, -/
abbrev eM : Memref sig .tc .vmem S1024x1024 .f32 := Memref.whole cc0_scratch0
/-- a device's own statistics (the row maxima and the row sums), -/
abbrev stM : Memref sig .tc .vmem S2x1024 .f32 := Memref.whole cc0_scratch1
/-- the statistics gathered from all devices. -/
abbrev gM : Memref sig .tc .vmem S16x2x1024 .f32 := Memref.whole cc0_scratch2

/-- The statistics' slot of the gathered buffer at an offset, seen as a device's statistics. -/
abbrev slotAt (o : Fin 3 → Nat) (h : ∀ a, o a + S1x2x1024.size a ≤ S16x2x1024.size a) : Memref sig .tc .vmem S2x1024 .f32 :=
  (gM.slice (Rect.unit (s := S16x2x1024) o S1x2x1024.size h) (fun _ => rfl)).squeeze S2x1024 squeezes_S1x2x1024_S2x1024

/-- The semaphore of an array of sixteen at an offset. -/
abbrev semAt (A : DmaSems sig S16) (o : Fin 1 → Nat) (h : ∀ a, o a + S1.size a ≤ S16.size a) : DmaSem sig :=
  ((A.slice (Rect.unit (s := S16) o S1.size h)).squeeze S_ squeezes_S1_S_).sem

/-- Sixteen semaphores: the offset of device `p` is inside. -/
theorem inb1 (p : Dev nD) : ∀ a, (![p.val] : Fin 1 → Nat) a + S1.size a ≤ S16.size a := by revert p; decide
/-- Sixteen slots: the offset of device `p` is inside. -/
theorem inb3 (p : Dev nD) : ∀ a, (![p.val, 0, 0] : Fin 3 → Nat) a + S1x2x1024.size a ≤ S16x2x1024.size a := by revert p; decide

/-- The slot of device `p`. -/
abbrev slotM (p : Dev nD) : Memref sig .tc .vmem S2x1024 .f32 := slotAt ![p.val, 0, 0] (inb3 p)
/-- The departure semaphore of the copy to device `p`, -/
abbrev sendS (p : Dev nD) : DmaSem sig := semAt cc0_scratch3 ![p.val] (inb1 p)
/-- the landing semaphore of the copy from device `p`, -/
abbrev recvS (p : Dev nD) : DmaSem sig := semAt cc0_scratch4 ![p.val] (inb1 p)
/-- the runtime's barrier semaphore. -/
abbrev barS : Sem sig := (SemArray.scalar (sig.barrier 0 rfl) : Sems sig S_).sem

/-! ## The steps -/

/-- The devices in order. -/
abbrev devs : List (Dev nD) := [0, 1, 2, 3, 4, 5, 6, 7, 8, 9, 10, 11, 12, 13, 14, 15]

/-- One step per device of a list, in order. -/
def runAll (f : Dev nD → Prog (TpuEff nD τ sig (Elt F) Λ₀ .tc) PUnit) : List (Dev nD) → Prog (TpuEff nD τ sig (Elt F) Λ₀ .tc) PUnit
  | [] => pure ⟨⟩
  | p :: l => f p >>= fun _ => runAll f l

/-- Device `p`'s barrier semaphore is signalled one unit. -/
abbrev sigP (p : Dev nD) : Prog (TpuEff nD τ sig (Elt F) Λ₀ .tc) PUnit := semSignalWord p barS 1#32

/-- The statistics start to be copied into a view `M` of device `p`'s gathered buffer, to land on the semaphore `q`. -/
abbrev sendG (M : Memref sig .tc .vmem S2x1024 .f32) (q : DmaSem sig) (hM : M.view.WordExact) (p : Dev nD) : Prog (TpuEff nD τ sig (Elt F) Λ₀ .tc) PUnit :=
  Prog.lift (.enqueueDma stM (.remote (Dev.tc p) M (.dma (sendS p))) (.dma q)
    (Memref.isWhole_whole cc0_scratch1).wordExact hM ⟨⟨rfl, Or.inl rfl⟩, trivial⟩)

/-- The departure of the copy to device `p`, into a view `M` there, is waited for. -/
abbrev drainG (M : Memref sig .tc .vmem S2x1024 .f32) (hM : M.view.WordExact) (p : Dev nD) : Prog (TpuEff nD τ sig (Elt F) Λ₀ .tc) PUnit :=
  Prog.lift (.waitDma2 (sendS p) M stM hM (Memref.isWhole_whole cc0_scratch1).wordExact)

/-- The landing of device `p`'s statistics is waited for. -/
abbrev recvP (p : Dev nD) : Prog (TpuEff nD τ sig (Elt F) Λ₀ .tc) PUnit :=
  Prog.lift (.waitDma2 (recvS p) stM (slotM p) (Memref.isWhole_whole cc0_scratch1).wordExact ((View.wordExact_bits rfl).reshape _ _))

/-- A slot covers whole words. -/
theorem slot_wordExact (o : Fin 3 → Nat) (h) : (slotAt o h).view.WordExact := (View.wordExact_bits rfl).reshape _ _

/-- The statistics of device `d` start to be copied into its slot of device `p`'s gathered buffer. -/
abbrev sendP (d p : Dev nD) : Prog (TpuEff nD τ sig (Elt F) Λ₀ .tc) PUnit := sendG (slotM d) (recvS d) (slot_wordExact _ _) p

/-- The departure of the copy of device `d`'s statistics to device `p` is waited for. -/
abbrev drainP (d p : Dev nD) : Prog (TpuEff nD τ sig (Elt F) Λ₀ .tc) PUnit := drainG (slotM d) (slot_wordExact _ _) p

/-- The local part before the exchange: the exponentials and the statistics of the block are stored. -/
def prepP : Prog (TpuEff nD τ sig (Elt F) Λ₀ .tc) PUnit := do
  let x ← Prog.lift (.load xM (Rect.unit (s := S1024x1024) ![0, 0] S1024x1024.size inb_S1024x1024_S1024x1024_0_0).toLoadRect (View.loadsAt_vmem h_S1024x1024))
  let _ ← Prog.lift (.load eM (Rect.unit (s := S1024x1024) ![0, 0] S1024x1024.size inb_S1024x1024_S1024x1024_0_0).toLoadRect (View.loadsAt_vmem h_S1024x1024))
  Prog.lift (.store eM (Rect.unit (s := S1024x1024) ![0, 0] S1024x1024.size inb_S1024x1024_S1024x1024_0_0) (k0_pay4 x) Finset.univ (View.stores_vmem_bits_univ h_S1024x1024 rfl) (.inl rfl))
  let _ ← Prog.lift (.load stM (Rect.unit (s := S2x1024) ![0, 0] S2x1024.size inb_S2x1024_S2x1024_0_0).toLoadRect (View.loadsAt_vmem h_S2x1024))
  Prog.lift (.store stM (Rect.unit (s := S2x1024) ![0, 0] S2x1024.size inb_S2x1024_S2x1024_0_0) (k0_pay5 x) Finset.univ (View.stores_vmem_bits_univ h_S2x1024 rfl) (.inl rfl))

/-- The local part after the exchange: the result is stored. -/
def combP : Prog (TpuEff nD τ sig (Elt F) Λ₀ .tc) PUnit := do
  let g ← Prog.lift (.load gM (Rect.unit (s := S16x2x1024) ![0, 0, 0] S16x2x1024.size inb_S16x2x1024_S16x2x1024_0_0_0).toLoadRect (View.loadsAt_vmem h_S16x2x1024))
  let t ← Prog.lift (.load stM (Rect.unit (s := S2x1024) ![0, 0] S1x1024.size inb_S2x1024_S1x1024_0_0).toLoadRect (View.loadsAt_vmem h_S1x1024))
  let e ← Prog.lift (.load eM (Rect.unit (s := S1024x1024) ![0, 0] S1024x1024.size inb_S1024x1024_S1024x1024_0_0).toLoadRect (View.loadsAt_vmem h_S1024x1024))
  let _ ← Prog.lift (.load oM (Rect.unit (s := S1024x1024) ![0, 0] S1024x1024.size inb_S1024x1024_S1024x1024_0_0).toLoadRect (View.loadsAt_vmem h_S1024x1024))
  Prog.lift (.store oM (Rect.unit (s := S1024x1024) ![0, 0] S1024x1024.size inb_S1024x1024_S1024x1024_0_0) (k0_pay6 g t e) Finset.univ (View.stores_vmem_bits_univ h_S1024x1024 rfl) (.inl rfl))

/-- The body as loops, over the offsets the kernel computes from its device's number. -/
def loopBody (slot : Dev nD → Fin 3 → Nat) (hslot : ∀ d a, slot d a + S1x2x1024.size a ≤ S16x2x1024.size a)
    (sem : Dev nD → Fin 1 → Nat) (hsem : ∀ d a, sem d a + S1.size a ≤ S16.size a) : Prog (TpuEff nD τ sig (Elt F) Λ₀ .tc) PUnit := do
  let d ← Prog.lift .deviceId
  runAll sigP devs
  prepP
  semWaitWord barS 16#32
  runAll (sendG (slotAt (slot d) (hslot d)) (semAt cc0_scratch4 (sem d) (hsem d)) (slot_wordExact _ _)) devs
  runAll recvP devs
  combP
  runAll (drainG (slotAt (slot d) (hslot d)) (slot_wordExact _ _)) devs

/-- The printed body is the loops over the printed offsets, -/
theorem body_eq_off :
    (cc0_body xM (Memref.isWhole_whole _) oM (Memref.isWhole_whole _) eM (Memref.isWhole_whole _) stM (Memref.isWhole_whole _)
      gM (Memref.isWhole_whole _) cc0_scratch3 cc0_scratch4 : Prog (TpuEff nD τ sig (Elt F) Λ₀ .tc) PUnit)
      = loopBody k0_off2 k0_off2_inb k0_off1 k0_off1_inb := by
  simp only [cc0_body, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part1_skel, k0_part2_skel, k0_part3_skel, k0_part4_skel, k0_part5_skel, k0_part6_skel,
    k0_part7_skel, k0_part8_skel, k0_part9_skel, k0_part10_skel, k0_part11_skel, k0_part12_skel, k0_part13_skel, bind_assoc, pure_bind]
  simp only [loopBody, runAll, prepP, combP, bind_assoc, pure_bind]
  rfl

/-- and the printed offsets are the device's number. -/
theorem body_eq :
    (cc0_body xM (Memref.isWhole_whole _) oM (Memref.isWhole_whole _) eM (Memref.isWhole_whole _) stM (Memref.isWhole_whole _)
      gM (Memref.isWhole_whole _) cc0_scratch3 cc0_scratch4 : Prog (TpuEff nD τ sig (Elt F) Λ₀ .tc) PUnit)
      = loopBody (fun d => ![d.val, 0, 0]) inb3 (fun d => ![d.val]) inb1 := by
  have h2 : k0_off2 = fun d => ![d.val, 0, 0] := funext k0_off2_eq
  have h1 : k0_off1 = fun d => ![d.val] := funext k0_off1_eq
  rw [body_eq_off]
  congr 1

end Cert.KernelIdeal.Proto

end
-- ==== Proof.Ideal.Proto.lean ====
/-
# The exchange's protocol

Every device signals one unit to every device's barrier semaphore and waits for sixteen units of its own; then it copies
its statistics into its own slot of every device's gathered buffer and waits for the sixteen landings and departures.

The signal of device `d` to device `c` hands over `d`'s slot number `c`, the place `c`'s copy is to land in. The landing
of the copy of `s` on `d` hands `d` its slot `s` back, holding the statistics of `s`. The departure of the copy from `c`
to `p` hands `c` back the share of its own statistics the copy was reading. All of it happens in one round.
-/
module

public import proofs.«01_k».proof.Proof.Ideal.Loop
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic
public import Idealize.ShloMosaic.Lib.Transfers
public import Idealize.ShloMosaic.Lib.Ring
public import Idealize.ShloMosaic.Lib.ValueLayout

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3 reshapeEquiv_ix2_1ab)
open Idealize.ShloMosaic.Transfers (shareDrop shareTok)

variable {F : FTy → Type} [FloatOps F]

/-! ## The resource algebra: the pipeline library's copy and the exchange's, whose duties are named by devices -/

/-- The ghost state of the exchange's rounds, -/
abbrev UB : Type := URounds (GSem nD τ sig) (Dev nD)
/-- beside the pipeline's. -/
abbrev UU : Type := UR sig nD τ × UB

local notation "𝕄" => MT nD τ sig Unit (Elt F) ℕ UU ℕ

/-- Where the pipeline's ghost state lies, -/
abbrev EP : Emb (UR sig nD τ) (MT nD τ sig Unit (Elt F) ℕ UU ℕ) := embL
/-- and the exchange's. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's barrier cell, -/
abbrev barCell (c : Dev nD) : GSem nD τ sig := ((c : Thread nD τ), .reg barS)
/-- its departure cell for destination `p`, -/
abbrev sendCell (c p : Dev nD) : GSem nD τ sig := ((c : Thread nD τ), .dma (sendS p))
/-- and its landing cell for source `p`. -/
abbrev recvCell (c p : Dev nD) : GSem nD τ sig := ((c : Thread nD τ), .dma (recvS p))

/-- A device's cells: its barrier, its sixteen departures, its sixteen landings. -/
abbrev CellIx : Type := Unit ⊕ (Dev nD ⊕ Dev nD)
/-- The semaphore of a cell, -/
abbrev csem : CellIx → SemLoc sig
  | .inl _ => .reg barS
  | .inr (.inl p) => .dma (sendS p)
  | .inr (.inr p) => .dma (recvS p)
/-- and the cell on its device. -/
abbrev kcell (ck : Dev nD × CellIx) : GSem nD τ sig := ((ck.1 : Thread nD τ), csem ck.2)

/-- The departure semaphores come after the two staging ones, -/
theorem sendS_val (p : Dev nD) : (sendS p).val = p.val + 2 := by revert p; decide
/-- the landing semaphores after those. -/
theorem recvS_val (p : Dev nD) : (recvS p).val = p.val + 18 := by revert p; decide

/-- The credit of one copy of the statistics. -/
abbrev N : ℕ := (stM : Memref sig .tc .vmem S2x1024 .f32).view.dmaCredit
/-- A copy credits its semaphores a positive amount. -/
theorem N_pos : 0 < N := View.dmaCredit_pos _ (by decide)

/-! ## Contents -/

/-- The block of the operand staged on device `c`, -/
def xstg (c : Dev nD) : (cc0_stg0_0 : Ref sig .tc).ty.Contents (Elt F) :=
  (win0_0.blk (0 : Fin 1)).view.read (Elt F) ((s₀ m ρ).mem ((c : Thread nD τ).loc main_arg0))

/-- its exponentials, -/
def expo (c : Dev nD) : (cc0_scratch0 : Ref sig .tc).ty.Contents (Elt F) := k0_pay4 (xstg m ρ c)

/-- and its statistics. -/
def stats (c : Dev nD) : (cc0_scratch1 : Ref sig .tc).ty.Contents (Elt F) := k0_pay5 (xstg m ρ c)

/-- The statistics of all devices, gathered: the same on every device. -/
def gath : (cc0_scratch2 : Ref sig .tc).ty.Contents (Elt F) := fun i => stats m ρ (i 0) (ix2 (i 1) (i 2) : S2x1024.Idx)

/-- The first row of a device's statistics. -/
def row0 (c : Dev nD) : Vec F S1x1024 .f32 :=
  stM.view.readAt (Elt F) (Rect.unit (s := S2x1024) ![0, 0] S1x1024.size inb_S2x1024_S1x1024_0_0).toLoadRect (stats m ρ c)

/-- The kernel's result on device `c`. -/
def outAt (c : Dev nD) : (cc0_stg1_0 : Ref sig .tc).ty.Contents (Elt F) := k0_pay6 (gath m ρ) (row0 m ρ c) (expo m ρ c)

/-! ## The slots -/

/-- The element of the gathered buffer at which slot `p` keeps element `j` of its statistics, -/
def gix (p : Dev nD) (j : S2x1024.Idx) : S16x2x1024.Idx := ix3 p (j 0) (j 1)
/-- and the element of the statistics an element of the gathered buffer keeps. -/
def stix (i : S16x2x1024.Idx) : S2x1024.Idx := ix2 (i 1) (i 2)

/-- An element is where its slot keeps it, -/
theorem gix_stix (i : S16x2x1024.Idx) : gix (i 0) (stix i) = i := (eq_ix3 (n0 := 16) (n1 := 2) (n2 := 1024) i).symm
/-- and a slot keeps each element at its own place, -/
theorem stix_gix (p : Dev nD) (j : S2x1024.Idx) : stix (gix p j) = j := (eq_ix2 (n0 := 2) (n1 := 1024) j).symm
/-- in the slot. -/
theorem gix_zero (p : Dev nD) (j : S2x1024.Idx) : gix p j 0 = p := rfl

/-- The slot as a view places its elements so. -/
theorem slot_emb (p : Dev nD) (j : S2x1024.Idx) : (slotM p).view.emb j = gix p j := by
  have hr : Shape.reshapeEquiv squeezes_S1x2x1024_S2x1024.numel_eq j = ix3 (⟨0, Nat.one_pos⟩ : Fin 1) (j 0 : Fin 2) (j 1 : Fin 1024) :=
    (congrArg _ (stix_gix p j).symm).trans (reshapeEquiv_ix2_1ab _ _ _)
  have h : (slotM p).view.emb j
      = (Rect.unit (s := S16x2x1024) ![p.val, 0, 0] S1x2x1024.size (inb3 p)).emb (ix3 (⟨0, Nat.one_pos⟩ : Fin 1) (j 0 : Fin 2) (j 1 : Fin 1024)) :=
    congrArg (Rect.unit (s := S16x2x1024) ![p.val, 0, 0] S1x2x1024.size (inb3 p)).emb hr
  rw [h]
  funext a
  apply Fin.ext
  rw [Rect.emb_apply]
  match a with
  | ⟨0, _⟩ => show p.val + 1 * 0 = p.val; omega
  | ⟨1, _⟩ => show 0 + 1 * (j 0).val = (j 0).val; omega
  | ⟨2, _⟩ => show 0 + 1 * (j 1).val = (j 1).val; omega

/-- The elements of a slot. -/
abbrev slotSet (p : Dev nD) : Finset S16x2x1024.Idx := (slotM p).view.set

/-- An element of the gathered buffer lies in the slot of its leading coordinate. -/
theorem mem_slot (p : Dev nD) (i : S16x2x1024.Idx) : i ∈ slotSet p ↔ i 0 = p := by
  constructor
  · intro h
    obtain ⟨j, -, hj⟩ := Finset.mem_map.mp h
    exact (congrFun (hj.symm.trans (slot_emb p j)) 0).trans (gix_zero p j)
  · intro h
    have e : i = (slotM p).view.emb (stix i) := by rw [slot_emb, ← h, gix_stix]
    exact e ▸ View.emb_mem_set _ _

/-- Different slots share no element, -/
theorem slots_disjoint (p q : Dev nD) (h : p ≠ q) : Disjoint (slotSet p) (slotSet q) :=
  Finset.disjoint_left.mpr fun i hi hj => h (((mem_slot p i).mp hi).symm.trans ((mem_slot q i).mp hj))

/-- and every element lies in one. -/
theorem slots_cover : (Finset.univ.biUnion slotSet) = Finset.univ :=
  Finset.eq_univ_of_forall fun i => Finset.mem_biUnion.mpr ⟨i 0, Finset.mem_univ _, (mem_slot _ i).mpr rfl⟩

/-- A copy of the statistics of `s` written into its slot is there what the gathered statistics are. -/
theorem landed_at (s : Dev nD) (fd : (cc0_scratch2 : Ref sig .tc).ty.Contents (Elt F)) (i : S16x2x1024.Idx) (hi : i ∈ slotSet s) :
    (slotM s).view.write (Elt F) fd (stM.view.read (Elt F) (stats m ρ s)) Finset.univ i = gath m ρ i := by
  obtain ⟨j, -, rfl⟩ := Finset.mem_map.mp hi
  have e : gath m ρ ((slotM s).view.emb j) = stats m ρ s j := by
    rw [slot_emb]; exact congrArg (stats m ρ s) (stix_gix s j)
  rw [View.write_emb_of_mem _ _ (Finset.mem_univ _), e]
  rfl

/-- Device `d`'s slot `s`, held at `f`, -/
def slotPts (d s : Dev nD) (f : Buf (Elt F) ((d : Thread nD τ).loc cc0_scratch2)) : sProp 𝕄 :=
  (slotM s).view.loc (d : Thread nD τ) ↦[(slotM s).view.set]{fullShare} f
/-- and a share of device `c`'s own statistics. -/
def stPts (q : PosShare TreeShare) (c : Dev nD) : sProp 𝕄 :=
  stM.view.loc (c : Thread nD τ) ↦[stM.view.set]{q} stats m ρ c

omit [FloatOps F] in
instance slotPts_storable (d s : Dev nD) (f) : BI.Storable (upEmb : UEmb _ 𝕄) (slotPts (F := F) d s f) := by unfold slotPts; infer_instance
instance stPts_storable (q : PosShare TreeShare) (c : Dev nD) : BI.Storable (upEmb : UEmb _ 𝕄) (stPts (F := F) m ρ q c) := by unfold stPts; infer_instance

omit [FloatOps F] in
/-- The gathered buffer held whole is its slots. -/
theorem slots_eq (d : Dev nD) (f : Buf (Elt F) ((d : Thread nD τ).loc cc0_scratch2)) :
    ((((d : Thread nD τ).loc cc0_scratch2) ↦{fullShare} f) : sProp 𝕄) = bigSep Finset.univ fun s : Dev nD => slotPts d s f := by
  unfold slotPts
  exact Ring.pointsTo_blocks (ℓ := (d : Thread nD τ).loc cc0_scratch2) slotSet slots_disjoint slots_cover f

/-- A device's statistics held whole are a remainder and one share per departure. -/
theorem shares_eq (c : Dev nD) :
    ((((c : Thread nD τ).loc cc0_scratch1) ↦{fullShare} stats m ρ c) : sProp 𝕄)
      ⊣⊢ iprop(stPts m ρ (shareDrop fullShare 16) c ∗ bigSep Finset.univ fun p : Dev nD => stPts m ρ (shareTok fullShare 16 p) c) := by
  unfold stPts
  rw [show stM.view.set = (Finset.univ : Finset (Idx ((c : Thread nD τ).loc cc0_scratch1))) from View.set_whole _]
  exact Transfers.pointsTo_toks fullShare 16

/-! ## The schedule -/

/-- What the signal of `d` to `c` hands over, -/
def barPay (c d : Dev nD) : sProp 𝕄 := iprop(∃ f, slotPts d c f)
/-- what the landing on `d` of the copy of `s` does, -/
def recvPay (d s : Dev nD) : sProp 𝕄 := slotPts d s (gath m ρ)
/-- and what the departure of the copy of `c` to `p` does. -/
def sendPay (c p : Dev nD) : sProp 𝕄 := stPts m ρ (shareTok fullShare 16 p) c

/-- A number as a device's. -/
def devOf (n : ℕ) : Dev nD := ⟨n % 16, Nat.mod_lt _ (by decide)⟩
/-- The device of a device's own number. -/
theorem devOf_val (p : Dev nD) : devOf p.val = p := Fin.ext (Nat.mod_eq_of_lt p.isLt)

/-- The payload of a duty, by the kind of its cell. -/
def pay (g : GSem nD τ sig) (d : Dev nD) : sProp 𝕄 := match g.2 with
  | .reg _ => barPay g.1.1 d
  | .dma q => if 18 ≤ q.val then recvPay m ρ g.1.1 (devOf (q.val - 18)) else sendPay m ρ g.1.1 (devOf (q.val - 2))

/-- One round: a barrier cell has one duty of one unit per device, the cell of a copy one duty of the copy's credit. -/
def sched : Rounds.Schedule (GSem nD τ sig) (Dev nD) 𝕄 where
  duties g r := if r = 0 then (match g.2 with
    | .reg _ => Finset.univ
    | .dma _ => {0}) else ∅
  unitless _ := False
  amount g _ _ := match g.2 with
    | .reg _ => 1
    | .dma _ => N
  payload g _ d := pay m ρ g d
  amount_pos g _ _ _ := by
    cases g.2 with
    | reg _ => exact Nat.one_pos
    | dma _ => exact N_pos

instance sched_storable (g : GSem nD τ sig) (r : ℕ) (d : Dev nD) :
    BI.Storable (upEmb : UEmb _ 𝕄) ((sched (F := F) m ρ).payload g r d) := by
  show BI.Storable upEmb (pay m ρ g d)
  unfold pay barPay recvPay sendPay
  (repeat' split) <;> infer_instance

section Sched
variable (c d p : Dev nD)

/-- A barrier cell has one duty per device, -/
theorem duties_bar : (sched (F := F) m ρ).duties (barCell c) 0 = Finset.univ := rfl
/-- a departure cell one duty, -/
theorem duties_send : (sched (F := F) m ρ).duties (sendCell c p) 0 = {0} := rfl
/-- a landing cell one duty, -/
theorem duties_recv : (sched (F := F) m ρ).duties (recvCell c p) 0 = {0} := rfl
/-- and no cell has any after the first round. -/
theorem duties_later (g : GSem nD τ sig) : ∀ r, 1 ≤ r → (sched (F := F) m ρ).duties g r = ∅ :=
  fun r hr => if_neg (by omega)

/-- A signal counts one, -/
theorem amount_bar : (sched (F := F) m ρ).amount (barCell c) 0 d = 1 := rfl
/-- a departure the credit of the copy, -/
theorem amount_send : (sched (F := F) m ρ).amount (sendCell c p) 0 d = N := rfl
/-- and so does a landing. -/
theorem amount_recv : (sched (F := F) m ρ).amount (recvCell c p) 0 d = N := rfl

/-- A barrier expects sixteen units, -/
theorem expect_bar : (sched (F := F) m ρ).expect (barCell c) 0 = 16 := by
  unfold Schedule.expect Schedule.amountOf
  rw [duties_bar, Finset.sum_congr rfl fun d _ => amount_bar m ρ c d, Finset.sum_const, Finset.card_univ, Fintype.card_fin]
  rfl
/-- a departure cell the credit of one copy, -/
theorem expect_send : (sched (F := F) m ρ).expect (sendCell c p) 0 = N := by
  unfold Schedule.expect Schedule.amountOf; rw [duties_send, Finset.sum_singleton, amount_send]
/-- and so does a landing cell. -/
theorem expect_recv : (sched (F := F) m ρ).expect (recvCell c p) 0 = N := by
  unfold Schedule.expect Schedule.amountOf; rw [duties_recv, Finset.sum_singleton, amount_recv]

/-- A signal hands over the slot, -/
theorem payload_bar : (sched (F := F) m ρ).payload (barCell c) 0 d = barPay c d := rfl
/-- a departure the share of the statistics, -/
theorem payload_send : (sched (F := F) m ρ).payload (sendCell c p) 0 d = sendPay m ρ c p := by
  show (if 18 ≤ (sendS p).val then recvPay m ρ c (devOf ((sendS p).val - 18)) else sendPay m ρ c (devOf ((sendS p).val - 2))) = _
  rw [sendS_val, if_neg (by have := p.isLt; simp only [nD] at this; omega), Nat.add_sub_cancel, devOf_val]
/-- a landing the slot with the statistics in it. -/
theorem payload_recv : (sched (F := F) m ρ).payload (recvCell c p) 0 d = recvPay m ρ c p := by
  show (if 18 ≤ (recvS p).val then recvPay m ρ c (devOf ((recvS p).val - 18)) else sendPay m ρ c (devOf ((recvS p).val - 2))) = _
  rw [recvS_val, if_pos (by omega), Nat.add_sub_cancel, devOf_val]

/-- The whole round of a barrier cell, -/
theorem rest_bar : bigSep ((sched (F := F) m ρ).duties (barCell c) 0 \ ∅) (fun d => (sched (F := F) m ρ).payload (barCell c) 0 d)
    = bigSep Finset.univ fun d : Dev nD => barPay c d := by
  rw [Finset.sdiff_empty, duties_bar]; rfl
/-- of a departure cell, -/
theorem rest_send : bigSep ((sched (F := F) m ρ).duties (sendCell c p) 0 \ ∅) (fun d => (sched (F := F) m ρ).payload (sendCell c p) 0 d)
    = sendPay m ρ c p := by
  rw [Finset.sdiff_empty, duties_send, bigSep_singleton, payload_send]
/-- and of a landing cell. -/
theorem rest_recv : bigSep ((sched (F := F) m ρ).duties (recvCell c p) 0 \ ∅) (fun d => (sched (F := F) m ρ).payload (recvCell c p) 0 d)
    = recvPay m ρ c p := by
  rw [Finset.sdiff_empty, duties_recv, bigSep_singleton, payload_recv]

end Sched

/-! ## What a device owes, and the levels -/

/-- A unit to the barrier of each device of a list, -/
def owedB (l : List (Dev nD)) : CellTallies nD τ sig Unit := (l.map fun p => tallyAt (barCell p) () 1).sum
/-- a copy's credit to the landing cell of `c` on each device of a list, -/
def owedR (c : Dev nD) (l : List (Dev nD)) : CellTallies nD τ sig Unit := (l.map fun p => tallyAt (recvCell p c) () N).sum
/-- and both to every device. -/
def O₀ (c : Dev nD) : CellTallies nD τ sig Unit := owedR c devs + owedB devs

/-- Signals owed to one device and more, -/
theorem owedB_cons (p : Dev nD) (l : List (Dev nD)) : owedB (p :: l) = owedB l + tallyAt (barCell p) () 1 := by
  unfold owedB; rw [List.map_cons, List.sum_cons, add_comm]
/-- landings owed to one device and more. -/
theorem owedR_cons (c p : Dev nD) (l : List (Dev nD)) : owedR c (p :: l) = owedR c l + tallyAt (recvCell p c) () N := by
  unfold owedR; rw [List.map_cons, List.sum_cons, add_comm]

/-- Where a list of owed tallies is positive, one of them is. -/
theorem sum_pos {f : Dev nD → CellTallies nD τ sig Unit} {g : GSem nD τ sig} {u : Unit} :
    ∀ {l : List (Dev nD)}, 0 < (l.map f).sum g u → ∃ p, 0 < f p g u
  | [], h => absurd h (by rw [List.map_nil, List.sum_nil]; exact Nat.lt_irrefl 0)
  | p :: l, h => by
    rw [List.map_cons, List.sum_cons, Pi.add_apply, Finsupp.add_apply] at h
    rcases Nat.eq_zero_or_pos (f p g u) with h0 | h0
    · rw [h0, Nat.zero_add] at h
      exact sum_pos h
    · exact ⟨p, h0⟩

/-- A tally at a cell is positive there alone. -/
theorem tally_pos {g g' : GSem nD τ sig} {u u' : Unit} {n : ℕ} (h : 0 < (tallyAt g u n : CellTallies nD τ sig Unit) g' u') : g' = g := by
  by_contra hn
  rw [tallyAt_apply, if_neg (fun h' => hn h'.1)] at h
  exact Nat.lt_irrefl 0 h

/-- Landings are owed at landing cells alone, -/
theorem owedR_pos {c : Dev nD} {l : List (Dev nD)} {g : GSem nD τ sig} {u : Unit} (h : 0 < owedR c l g u) : ∃ p, g = recvCell p c := by
  obtain ⟨p, hp⟩ := sum_pos h
  exact ⟨p, tally_pos hp⟩

/-- and all that is owed at the start is at landing and barrier cells. -/
theorem O₀_pos {c : Dev nD} {g : GSem nD τ sig} {u : Unit} (h : 0 < O₀ c g u) : ∃ p, g = recvCell p c ∨ g = barCell p := by
  unfold O₀ at h
  rw [Pi.add_apply, Finsupp.add_apply] at h
  rcases Nat.eq_zero_or_pos (owedR c devs g u) with h0 | h0
  · rw [h0, Nat.zero_add] at h
    obtain ⟨p, hp⟩ := sum_pos h
    exact ⟨p, .inr (tally_pos hp)⟩
  · obtain ⟨p, hp⟩ := owedR_pos h0
    exact ⟨p, .inl hp⟩

/-- The cells with a level: those of the TensorCores. -/
def L (g : GSem nD τ sig) : Finset Unit := if g.1.2 = .tc then {()} else ∅
/-- Barrier cells at 1, landing cells at 2, everything else at 0. -/
def lv (g : GSem nD τ sig) (_ : Unit) : ℕ := match g.2 with
  | .reg _ => 1
  | .dma q => if 18 ≤ q.val then 2 else 0

/-- Other threads have none, -/
theorem L_of_ne (g : GSem nD τ sig) (h : g.1.2 ≠ .tc) : L g = ∅ := if_neg h
/-- a TensorCore's cells have the one. -/
theorem L_tc (c : Dev nD) (sm : SemLoc sig) : L ((c : Thread nD τ), sm) = {()} := if_pos rfl
/-- The level of a barrier cell -/
theorem lv_bar (c : Dev nD) : lv (barCell c) () = 1 := rfl
/-- and of a landing cell. -/
theorem lv_recv (c p : Dev nD) : lv (recvCell c p) () = 2 := if_pos (by rw [recvS_val]; omega)

omit [FloatOps F] in
/-- A wait for a staging transfer is below everything owed, -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨p, rfl | rfl⟩ := O₀_pos hg <;> exact Finset.mem_singleton_self _)
      (fun p hp => by rw [Finset.mem_singleton.mp hp]; exact (if_neg (by omega)).le)
      (fun g u hg => by
        obtain ⟨p, rfl | rfl⟩ := O₀_pos hg
        · rw [lv_recv]; decide
        · rw [lv_bar]; decide)
  · rw [MayWait_zero]; iintro -; iempintro

omit [FloatOps F] in
/-- and the barrier wait below the copies owed. -/
theorem mayWait_bar (c : Dev nD) :
    (levAts L lv : sProp 𝕄) ⊢ MayWait (c : Thread nD τ) (.reg barS) () (owedR c devs) :=
  MayOwe.of_cut (L := L) (lev := lv) 1 (fun p hp => by rw [Finset.mem_singleton.mp hp, L_tc]; exact Finset.mem_singleton_self _)
    (fun g u hg => by obtain ⟨p, rfl⟩ := owedR_pos hg; exact Finset.mem_singleton_self _)
    (fun p hp => by rw [Finset.mem_singleton.mp hp]; exact le_rfl)
    (fun g u hg => by obtain ⟨p, rfl⟩ := owedR_pos hg; rw [lv_recv]; decide)

end Cert.KernelIdeal.Proto

end
-- ==== Proof.Ideal.Steps.lean ====
/-
# One step of each family, and the families

Each rule here is about one step of a loop of the body (Loop.lean) on device `c`, under the exchange's schedule
(Proto.lean); `wp_runAll` runs a family of steps along a list.
-/
module

public import proofs.«01_k».proof.Proof.Ideal.Proto

@[expose] public section

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (ρ : Dev nD → PrngReg)

/-- The body calls no other. -/
abbrev 𝒱₀ : Variants := Variants.none

/-- What all devices know of all cells: their invariants, under the names `K`, and that their round has begun. -/
def records (K : Dev nD × CellIx → ℕ) : sProp 𝕄 :=
  iprop((bigSep Finset.univ fun ck : Dev nD × CellIx => cellInv ER (sched m ρ) (K ck) (kcell ck))
    ∗ bigSep Finset.univ fun ck : Dev nD × CellIx => reached ER (kcell ck) 0)

instance records_persistent (K : Dev nD × CellIx → ℕ) : BI.Persistent (records (F := F) m ρ K) := by unfold records; infer_instance

/-- One cell's invariant among the records, -/
theorem inv_at (K : Dev nD × CellIx → ℕ) (ck : Dev nD × CellIx) :
    (records m ρ K : sProp 𝕄) ⊢ cellInv ER (sched m ρ) (K ck) (kcell ck) := by
  unfold records
  exact sep_elim_left.trans (bigSep_elim (Finset.mem_univ ck))

/-- and that its first round is reached. -/
theorem reached_at (K : Dev nD × CellIx → ℕ) (ck : Dev nD × CellIx) : (records m ρ K : sProp 𝕄) ⊢ reached ER (kcell ck) 0 := by
  unfold records
  exact sep_elim_right.trans (bigSep_elim (Finset.mem_univ ck))

/-! ## Running a family -/

/-- Steps that each turn `A p` into `B p` and a state `C` for the list with `p` into that for the list without, run along
    a list. -/
theorem wp_runAll (c : Dev nD) (f : Dev nD → Prog (TpuEff nD τ sig (Elt F) Λ₀ .tc) PUnit) (A B : Dev nD → sProp 𝕄) (C : List (Dev nD) → sProp 𝕄)
    (step : ∀ p l, iprop(A p ∗ C (p :: l))
      ⊢ wp frame (wpE (defs₀ (F := F)) 𝒱₀ (c : Thread nD τ) none) Set.univ (f p) (fun _ => iprop(B p ∗ C l))) :
    ∀ l, iprop(bigSepL l A ∗ C l)
      ⊢ wp frame (wpE (defs₀ (F := F)) 𝒱₀ (c : Thread nD τ) none) Set.univ (runAll f l) (fun _ => iprop(bigSepL l B ∗ C []))
  | [] => by
    rw [bigSepL_nil, bigSepL_nil]
    unfold runAll
    rw [Prog.pure_eq_ret, wp_ret]
    exact fupd_intro
  | p :: l => by
    rw [bigSepL_cons', bigSepL_cons', runAll, wp_bind]
    have h1 : iprop((A p ∗ bigSepL l A) ∗ C (p :: l)) ⊢ iprop(bigSepL l A ∗ (A p ∗ C (p :: l))) := by
      iintro ⟨⟨H1, H2⟩, H3⟩
      isplitl [H2]; · iexact H2
      isplitl [H1] <;> iassumption
    have h2 : iprop(bigSepL l A ∗ (B p ∗ C l)) ⊢ iprop(B p ∗ (bigSepL l A ∗ C l)) := by
      iintro ⟨H1, H2, H3⟩
      isplitl [H2]; · iexact H2
      isplitl [H1] <;> iassumption
    have h3 : iprop(B p ∗ (bigSepL l B ∗ C [])) ⊢ iprop((B p ∗ bigSepL l B) ∗ C []) := by
      iintro ⟨H1, H2, H3⟩
      isplitl [H1 H2]; · isplitl [H1] <;> iassumption
      iexact H3
    refine h1.trans ((sep_mono_right (step p l)).trans ((wp_frame_l _ _ _).trans (wp_mono _ _ _ fun _ => ?_)))
    exact h2.trans ((sep_mono_right (wp_runAll c f A B C step l)).trans ((wp_frame_l _ _ _).trans (wp_mono _ _ _ fun _ => h3)))

omit [FloatOps F] in
/-- All devices, listed. -/
theorem bigSep_devs (Φ : Dev nD → sProp 𝕄) : bigSep Finset.univ Φ = bigSepL devs Φ :=
  bigSep_univ_eq_bigSepL devs (by decide) (by decide) Φ

/-- The same along all the devices. -/
theorem wp_runDevs (c : Dev nD) (f : Dev nD → Prog (TpuEff nD τ sig (Elt F) Λ₀ .tc) PUnit) (A B : Dev nD → sProp 𝕄) (C : List (Dev nD) → sProp 𝕄)
    (step : ∀ p l, iprop(A p ∗ C (p :: l))
      ⊢ wp frame (wpE (defs₀ (F := F)) 𝒱₀ (c : Thread nD τ) none) Set.univ (f p) (fun _ => iprop(B p ∗ C l))) :
    iprop((bigSep Finset.univ A) ∗ C devs)
      ⊢ wp frame (wpE (defs₀ (F := F)) 𝒱₀ (c : Thread nD τ) none) Set.univ (runAll f devs) (fun _ => iprop((bigSep Finset.univ B) ∗ C [])) := by
  rw [bigSep_devs, bigSep_devs]
  exact wp_runAll c f A B C step devs

/-! ## The steps -/

section Steps

variable (K : Dev nD × CellIx → ℕ) (c : Dev nD)

/-- What a device owes while its signals go out, -/
def oweSig (l : List (Dev nD)) : sProp 𝕄 := iprop(records m ρ K ∗ ∃ W, owes (c : Thread nD τ) (owedR c devs + owedB l) W)
/-- while its copies do, -/
def oweSend (l : List (Dev nD)) : sProp 𝕄 := iprop(records m ρ K ∗ ∃ W, owes (c : Thread nD τ) (owedR c l) W)
/-- and afterwards. -/
def oweNone (_ : List (Dev nD)) : sProp 𝕄 := iprop(records m ρ K ∗ ∃ W, owes (c : Thread nD τ) 0 W)

/-- The signal to `p` hands over slot `p`. -/
theorem sig_step (p : Dev nD) (l : List (Dev nD)) :
    iprop((dutyTok ER (barCell p) 0 c ∗ barPay p c) ∗ oweSig m ρ K c (p :: l))
      ⊢ wp frame (wpE (defs₀ (F := F)) 𝒱₀ (c : Thread nD τ) none) Set.univ (sigP p) (fun _ => iprop(emp ∗ oweSig m ρ K c l)) := by
  unfold oweSig
  simp only [semSignalWord]
  iintro ⟨⟨Ht, Hp⟩, #HR, ⟨%W, HO⟩⟩
  rw [owedB_cons, ← add_assoc]
  iapply (Rounds.wp_signal 𝒱₀ ER (sched m ρ) (c : Thread nD τ) none (dst := (p : Thread nD τ)) (κ := K (p, .inl ()))
      (d := c) (by rw [duties_bar]; exact Finset.mem_univ _) ((amount_bar m ρ p c).trans (by decide)) () (owedR c devs + owedB l) rfl)
    $$ [HO Ht Hp]
  · isplitr; · iapply (inv_at m ρ K (p, .inl ())); iexact HR
    isplitl [HO]; · iexact HO
    isplitl [Ht]; · iexact Ht
    isplitl [Hp]; · rw [payload_bar]; iexact Hp
    iapply (reached_at m ρ K (p, .inl ())); iexact HR
  iintro HO
  rw [wp_ret]; imodintro
  isplitr; · iempintro
  isplitr; · iexact HR
  iexists W; iexact HO

/-- `Rounds.wp_send_pointsTo` at the copy from `c` to `p`. -/
theorem wp_send_cell (p : Dev nD) (l : List (Dev nD)) {hsc : (slotM c : Memref sig (Dev.tc p : Thread nD τ).2.kind .vmem S2x1024 .f32).view.ref.isScScratch = false}
    {hsrc : (stM : Memref sig .tc .vmem S2x1024 .f32).view.WordExact} {hdst : (slotM c : Memref sig .tc .vmem S2x1024 .f32).view.WordExact}
    {hsem : DmaTarget.Typed .vmem (.dma (recvS c)) (.remote (Dev.tc p : Thread nD τ) (slotM c : Memref sig .tc .vmem S2x1024 .f32) (.dma (sendS p)) hsc)}
    {α : Type} {Q : α → sProp 𝕄} {k : PUnit → Prog (TpuEff nD τ sig (Elt F) Λ₀ .tc) α}
    (fd : Buf (Elt F) ((p : Thread nD τ).loc cc0_scratch2)) (W : Waits sig Unit) :
    iprop(cellInv ER (sched m ρ) (K (c, .inr (.inl p))) (sendCell c p) ∗ cellInv ER (sched m ρ) (K (p, .inr (.inr c))) (recvCell p c)
        ∗ stPts m ρ (shareTok fullShare 16 p) c ∗ slotPts p c fd
        ∗ owes (c : Thread nD τ) (owedR c (p :: l)) W
        ∗ dutyTok ER (sendCell c p) 0 0 ∗ reached ER (sendCell c p) 0
        ∗ dutyTok ER (recvCell p c) 0 0 ∗ reached ER (recvCell p c) 0)
      ⊢ iprop(((cred (tallyAt (sendCell c p) () N) ∗ owes (c : Thread nD τ) (owedR c l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma stM (.remote (Dev.tc p : Thread nD τ) (slotM c) (.dma (sendS p)) hsc) (.dma (recvS c)) hsrc hdst hsem) k) Q) := by
  have h₁ : (stPts m ρ (shareTok fullShare 16 p) c : sProp 𝕄) ⊢ (sched m ρ).payload (sendCell c p) 0 0 := by
    rw [payload_send]; exact BI.Entails.refl _
  have h₂ : (slotPts p c ((slotM c).view.write (Elt F) fd (stM.view.read (Elt F) (stats m ρ c)) Finset.univ) : sProp 𝕄) ⊢ (sched m ρ).payload (recvCell p c) 0 0 := by
    rw [payload_recv]; unfold recvPay slotPts; exact Entails.of_eq (pointsTo_congr (landed_at m ρ c fd))
  have hN : (slotM c).view.amount (.dma (recvS c)) = N := rfl
  unfold slotPts stPts at *
  have hd₁ : (0 : Dev nD) ∈ (sched (F := F) m ρ).duties (sendCell c p) 0 := by rw [duties_send]; exact Finset.mem_singleton_self _
  have hd₂ : (0 : Dev nD) ∈ (sched (F := F) m ρ).duties (recvCell p c) 0 := by rw [duties_recv]; exact Finset.mem_singleton_self _
  have ha₁ := amount_send (F := F) m ρ c 0 p
  have ha₂ := amount_recv (F := F) m ρ p 0 c
  have hr : τ.routes (c : Thread nD τ) (p : Thread nD τ) = true := by routes
  exact Rounds.wp_send_pointsTo (defs := defs₀ (F := F)) (c' := (p : Thread nD τ)) (src := stM) (dst := slotM c) (sS := .dma (sendS p)) (sem := .dma (recvS c)) (hsc := hsc)
      (hsrc := hsrc) (hdst := hdst) (hsem := hsem) (k := k) (Q := Q) (q := shareTok fullShare 16 p) (fs := stats m ρ c) 𝒱₀ ER (sched m ρ) (c : Thread nD τ) none (κ₁ := K (c, .inr (.inl p))) (κ₂ := K (p, .inr (.inr c)))
      (r₁ := 0) (r₂ := 0) (d₁ := (0 : Dev nD)) (d₂ := (0 : Dev nD)) (fd := fd) hd₁ hd₂
      () () N hN ha₁ ha₂ (owedR c l) (owedR_cons c p l) (W := W)
      h₁ h₂ (Es := Set.univ) hr

/-- The copy to `p` takes a share of the statistics and slot `c` on `p`. -/
theorem send_step (p : Dev nD) (l : List (Dev nD)) :
    iprop((barPay c p ∗ stPts m ρ (shareTok fullShare 16 p) c ∗ dutyTok ER (sendCell c p) 0 0 ∗ dutyTok ER (recvCell p c) 0 0) ∗ oweSend m ρ K c (p :: l))
      ⊢ wp frame (wpE (defs₀ (F := F)) 𝒱₀ (c : Thread nD τ) none) Set.univ (sendP c p)
          (fun _ => iprop(cred (tallyAt (sendCell c p) () N) ∗ oweSend m ρ K c l)) := by
  unfold oweSend barPay
  simp only [Prog.lift]
  iintro ⟨⟨⟨%fd, Hd⟩, Hs, HtS, HtR⟩, #HR, ⟨%W, HO⟩⟩
  iapply (wp_send_cell m ρ K c p l fd W) $$ [Hd Hs HtS HtR HO]
  · isplitr; · iapply (inv_at m ρ K (c, .inr (.inl p))); iexact HR
    isplitr; · iapply (inv_at m ρ K (p, .inr (.inr c))); iexact HR
    isplitl [Hs]; · iexact Hs
    isplitl [Hd]; · iexact Hd
    isplitl [HO]; · iexact HO
    isplitl [HtS]; · iexact HtS
    isplitr; · iapply (reached_at m ρ K (c, .inr (.inl p))); iexact HR
    isplitl [HtR]; · iexact HtR
    iapply (reached_at m ρ K (p, .inr (.inr c))); iexact HR
  iintro ⟨Hc, HO⟩
  rw [wp_ret]; imodintro
  isplitl [Hc]; · iexact Hc
  isplitr; · iexact HR
  iexists W; iexact HO

/-- The wait for the landing from `p` gives slot `p` back at the statistics of `p`; its cell is closed. -/
theorem recv_step (p : Dev nD) (l : List (Dev nD)) :
    iprop((cred (tallyAt (recvCell c p) () N) ∗ atPos ER (recvCell c p) 0 ∅ 0) ∗ oweNone m ρ K c (p :: l))
      ⊢ wp frame (wpE (defs₀ (F := F)) 𝒱₀ (c : Thread nD τ) none) Set.univ (recvP p)
          (fun _ => iprop((slotPts c p (gath m ρ) ∗ semVal (recvCell c p) 0) ∗ oweNone m ρ K c l)) := by
  unfold oweNone
  simp only [Prog.lift]
  iintro ⟨⟨Hc, Hat⟩, #HR, ⟨%W, HO⟩⟩
  iapply (Rounds.wp_wait_rest_token 𝒱₀ ER (sched m ρ) (c : Thread nD τ) none (κ := K (c, .inr (.inr p)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m ρ K (c, .inr (.inr p))); iexact HR
    isplitl [Hc]; · iexact Hc
    isplitl [HO]; · iexact HO
    isplitr; · rw [MayWait_zero]; iempintro
    iexact Hat
  iintro ⟨HO, Hat, -, Hpay⟩
  rw [wp_ret]
  imod (Rounds.cell_close ER (sched m ρ) (Set.mem_univ (K (c, .inr (.inr p)))) (fun h => h) (R := 0 + 1) (duties_later m ρ (recvCell c p))) $$ [Hat] with Hz
  · isplitr; · iapply (inv_at m ρ K (c, .inr (.inr p))); iexact HR
    iexact Hat
  imodintro
  ihave Hs := (Entails.of_eq (rest_recv m ρ c p)) $$ Hpay
  isplitl [Hs Hz]
  · isplitl [Hs]; · unfold recvPay; iexact Hs
    iexact Hz
  isplitr; · iexact HR
  iexists _; iexact HO

/-- The wait for the departure to `p` gives the share of the statistics back; its cell is closed. -/
theorem drain_step (p : Dev nD) (l : List (Dev nD)) :
    iprop((cred (tallyAt (sendCell c p) () N) ∗ atPos ER (sendCell c p) 0 ∅ 0) ∗ oweNone m ρ K c (p :: l))
      ⊢ wp frame (wpE (defs₀ (F := F)) 𝒱₀ (c : Thread nD τ) none) Set.univ (drainP c p)
          (fun _ => iprop((stPts m ρ (shareTok fullShare 16 p) c ∗ semVal (sendCell c p) 0) ∗ oweNone m ρ K c l)) := by
  unfold oweNone
  simp only [Prog.lift]
  iintro ⟨⟨Hc, Hat⟩, #HR, ⟨%W, HO⟩⟩
  iapply (Rounds.wp_wait_rest_token 𝒱₀ ER (sched m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, .inr (.inl p))); iexact HR
    isplitl [Hc]; · iexact Hc
    isplitl [HO]; · iexact HO
    isplitr; · rw [MayWait_zero]; iempintro
    iexact Hat
  iintro ⟨HO, Hat, -, Hpay⟩
  rw [wp_ret]
  imod (Rounds.cell_close ER (sched m ρ) (Set.mem_univ (K (c, .inr (.inl p)))) (fun h => h) (R := 0 + 1) (duties_later m ρ (sendCell c p))) $$ [Hat] with Hz
  · isplitr; · iapply (inv_at m ρ K (c, .inr (.inl p))); iexact HR
    iexact Hat
  imodintro
  ihave Hs := (Entails.of_eq (rest_send m ρ c p)) $$ Hpay
  isplitl [Hs Hz]
  · isplitl [Hs]; · unfold sendPay; iexact Hs
    iexact Hz
  isplitr; · iexact HR
  iexists _; iexact HO

end Steps

end Cert.KernelIdeal.Proto

end
-- ==== Proof.Ideal.Body.lean ====
/-
# The body on one device

The phases of the body (Loop.lean) one after the other, from what a device holds when its body is entered (`Φ₀`) to what
it holds at the end (`Φ₁`): the signals, the local part, the barrier wait, the sends, the landings, the combination, the
departures.
-/
module

public import proofs.«01_k».proof.Proof.Ideal.Steps
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen
open Idealize.ShloMosaic Idealize.ShloMosaic.TcCoe
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- A buffer of a device held whole, at contents `f`. -/
abbrev pts (c : Dev nD) (b : Ref sig .tc) (f : Buf (Elt F) ((c : Thread nD τ).loc b)) : sProp 𝕄 := ((c : Thread nD τ).loc b) ↦{fullShare} f

/-- The positions of device `c` on its cells and the tokens of the duties it pays. -/
def linear (c : Dev nD) : sProp 𝕄 :=
  iprop(atPos ER (barCell c) 0 ∅ 0
    ∗ (bigSep Finset.univ fun p : Dev nD => atPos ER (sendCell c p) 0 ∅ 0)
    ∗ (bigSep Finset.univ fun p : Dev nD => atPos ER (recvCell c p) 0 ∅ 0)
    ∗ (bigSep Finset.univ fun p : Dev nD => dutyTok ER (barCell p) 0 c)
    ∗ (bigSep Finset.univ fun p : Dev nD => dutyTok ER (sendCell c p) 0 0)
    ∗ (bigSep Finset.univ fun p : Dev nD => dutyTok ER (recvCell p c) 0 0))

/-- With them, what all devices know. -/
def ghost (K : Dev nD × CellIx → ℕ) (c : Dev nD) : sProp 𝕄 := iprop(records m ρ K ∗ linear c)

/-- The credits of the device's waits on what others owe it. -/
def credits (c : Dev nD) : sProp 𝕄 :=
  iprop(cred (tallyAt (barCell c) () 16) ∗ bigSep Finset.univ fun p : Dev nD => cred (tallyAt (recvCell c p) () N))

/-- The scratch buffers, at any contents. -/
def scratch (c : Dev nD) : sProp 𝕄 :=
  iprop((∃ f, pts c cc0_scratch0 f) ∗ (∃ f, pts c cc0_scratch1 f) ∗ ∃ f, pts c cc0_scratch2 f)

/-- Before the body, -/
def start (c : Dev nD) : sProp 𝕄 := iprop((∃ K, ghost m ρ K c) ∗ credits c ∗ levAts L lv)
/-- What the device holds before the body: the start of the exchange and its scratch buffers, -/
def Φ₀ (c : Dev nD) : sProp 𝕄 := iprop(start m ρ c ∗ scratch c)
/-- and after it: all its semaphores at zero. -/
def Φ₁ (c : Dev nD) : sProp 𝕄 :=
  iprop(scratch (F := F) c ∗ (bigSep Finset.univ fun p : Dev nD => semVal (sendCell c p) 0)
    ∗ (bigSep Finset.univ fun p : Dev nD => semVal (recvCell c p) 0) ∗ semVal (barCell c) 0)

/-- The pipeline's data: the one point fetches the block and writes the result back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Phases -/

section Phases

variable (K : Dev nD × CellIx → ℕ) (c : Dev nD)

/-- A phase's rule in continuation form. -/
theorem run_then {p : Prog (TpuEff nD τ sig (Elt F) Λ₀ .tc) PUnit} {P Q : sProp 𝕄} {R : PUnit → sProp 𝕄}
    (h : P ⊢ wp frame (wpE (defs₀ (F := F)) 𝒱₀ (c : Thread nD τ) none) Set.univ p (fun _ => Q)) :
    P ⊢ iprop((Q -∗ R ⟨⟩) -∗ wp frame (wpE (defs₀ (F := F)) 𝒱₀ (c : Thread nD τ) none) Set.univ p R) :=
  BI.wand_intro (((sep_mono_left h).trans (wp_frame_r _ _ _)).trans (wp_mono _ _ _ fun _ => wand_elim_right))

/-- The offsets of a whole access in two axes are zero, -/
theorem zero2 : (![0, 0] : Fin 2 → Nat) = fun _ => 0 := funext fun a => by fin_cases a <;> rfl
/-- and in three. -/
theorem zero3 : (![0, 0, 0] : Fin 3 → Nat) = fun _ => 0 := funext fun a => by fin_cases a <;> rfl

/-- The local part before the exchange leaves the exponentials and the statistics. -/
theorem prep_phase (fe : Buf (Elt F) ((c : Thread nD τ).loc cc0_scratch0)) (fs : Buf (Elt F) ((c : Thread nD τ).loc cc0_scratch1)) :
    iprop(pts c cc0_stg0_0 (xstg m ρ c) ∗ pts c cc0_scratch0 fe ∗ pts c cc0_scratch1 fs)
      ⊢ wp frame (wpE (defs₀ (F := F)) 𝒱₀ (c : Thread nD τ) none) Set.univ prepP
          (fun _ => iprop(pts c cc0_stg0_0 (xstg m ρ c) ∗ pts c cc0_scratch0 (expo m ρ c) ∗ pts c cc0_scratch1 (stats m ρ c))) := by
  unfold prepP
  simp only [Prog.lift, Prog.bind_op, Prog.bind_ret, Prog.pure_eq_ret]
  iintro ⟨Hx, He, Hs⟩
  iapply (wp_load 𝒱₀ (c : Thread nD τ) none Set.univ (m := xM) (Finset.subset_univ _)) $$ Hx; iintro Hx
  rw [show (xM : Memref sig .tc .vmem S1024x1024 .f32).view.readAt (Elt F) (Rect.unit (s := S1024x1024) ![0, 0] S1024x1024.size inb_S1024x1024_S1024x1024_0_0).toLoadRect (xstg m ρ c) = xstg m ρ c
    from Memref.readAt_unit_zero (Elt F) cc0_stg0_0 zero2 _ _]
  iapply (wp_load 𝒱₀ (c : Thread nD τ) none Set.univ (m := eM) (Finset.subset_univ _)) $$ He; iintro He
  iapply (wp_store 𝒱₀ (c : Thread nD τ) none Set.univ (m := eM) (r := Rect.unit (s := S1024x1024) ![0, 0] S1024x1024.size inb_S1024x1024_S1024x1024_0_0)
    (Mk := Finset.univ) (Finset.subset_univ _)) $$ He; iintro He
  iapply (wp_load 𝒱₀ (c : Thread nD τ) none Set.univ (m := stM) (Finset.subset_univ _)) $$ Hs; iintro Hs
  iapply (wp_store 𝒱₀ (c : Thread nD τ) none Set.univ (m := stM) (r := Rect.unit (s := S2x1024) ![0, 0] S2x1024.size inb_S2x1024_S2x1024_0_0)
    (Mk := Finset.univ) (Finset.subset_univ _)) $$ Hs; iintro Hs
  have he (f w : (cc0_scratch0 : Ref sig .tc).ty.Contents (Elt F)) :
      ((eM : Memref sig .tc .vmem S1024x1024 .f32).access (Rect.unit (s := S1024x1024) ![0, 0] S1024x1024.size inb_S1024x1024_S1024x1024_0_0) : View sig .tc _ _ _).write (Elt F) f w Finset.univ = w :=
    Memref.write_access_unit_zero_univ (Elt F) cc0_scratch0 zero2 _ f w
  have hs (f w : (cc0_scratch1 : Ref sig .tc).ty.Contents (Elt F)) :
      ((stM : Memref sig .tc .vmem S2x1024 .f32).access (Rect.unit (s := S2x1024) ![0, 0] S2x1024.size inb_S2x1024_S2x1024_0_0) : View sig .tc _ _ _).write (Elt F) f w Finset.univ = w :=
    Memref.write_access_unit_zero_univ (Elt F) cc0_scratch1 zero2 _ f w
  rw [he, hs, wp_ret]; imodintro
  isplitl [Hx]; · iexact Hx
  isplitl [He]; · unfold expo; iexact He
  unfold stats; iexact Hs

/-- The local part after it leaves the result. -/
theorem comb_phase (q : PosShare TreeShare) (fo : Buf (Elt F) ((c : Thread nD τ).loc cc0_stg1_0)) :
    iprop(pts c cc0_scratch2 (gath m ρ) ∗ stPts m ρ q c ∗ pts c cc0_scratch0 (expo m ρ c) ∗ pts c cc0_stg1_0 fo)
      ⊢ wp frame (wpE (defs₀ (F := F)) 𝒱₀ (c : Thread nD τ) none) Set.univ combP
          (fun _ => iprop(pts c cc0_scratch2 (gath m ρ) ∗ stPts m ρ q c ∗ pts c cc0_scratch0 (expo m ρ c) ∗ pts c cc0_stg1_0 (outAt m ρ c))) := by
  unfold combP
  simp only [Prog.lift, Prog.bind_op, Prog.bind_ret, Prog.pure_eq_ret]
  iintro ⟨Hg, Hs, He, Ho⟩
  iapply (wp_load 𝒱₀ (c : Thread nD τ) none Set.univ (m := gM) (Finset.subset_univ _)) $$ Hg; iintro Hg
  rw [show (gM : Memref sig .tc .vmem S16x2x1024 .f32).view.readAt (Elt F) (Rect.unit (s := S16x2x1024) ![0, 0, 0] S16x2x1024.size inb_S16x2x1024_S16x2x1024_0_0_0).toLoadRect (gath m ρ) = gath m ρ
    from Memref.readAt_unit_zero (Elt F) cc0_scratch2 zero3 _ _]
  unfold stPts
  iapply (wp_load 𝒱₀ (c : Thread nD τ) none Set.univ (m := stM) (View.setOn_subset_set _ _)) $$ Hs; iintro Hs
  iapply (wp_load 𝒱₀ (c : Thread nD τ) none Set.univ (m := eM) (Finset.subset_univ _)) $$ He; iintro He
  rw [show (eM : Memref sig .tc .vmem S1024x1024 .f32).view.readAt (Elt F) (Rect.unit (s := S1024x1024) ![0, 0] S1024x1024.size inb_S1024x1024_S1024x1024_0_0).toLoadRect (expo m ρ c) = expo m ρ c
    from Memref.readAt_unit_zero (Elt F) cc0_scratch0 zero2 _ _]
  iapply (wp_load 𝒱₀ (c : Thread nD τ) none Set.univ (m := oM) (Finset.subset_univ _)) $$ Ho; iintro Ho
  iapply (wp_store 𝒱₀ (c : Thread nD τ) none Set.univ (m := oM) (r := Rect.unit (s := S1024x1024) ![0, 0] S1024x1024.size inb_S1024x1024_S1024x1024_0_0)
    (Mk := Finset.univ) (Finset.subset_univ _)) $$ Ho; iintro Ho
  have ho (f w : (cc0_stg1_0 : Ref sig .tc).ty.Contents (Elt F)) :
      ((oM : Memref sig .tc .vmem S1024x1024 .f32).access (Rect.unit (s := S1024x1024) ![0, 0] S1024x1024.size inb_S1024x1024_S1024x1024_0_0) : View sig .tc _ _ _).write (Elt F) f w Finset.univ = w :=
    Memref.write_access_unit_zero_univ (Elt F) cc0_stg1_0 zero2 _ f w
  rw [ho, wp_ret]; imodintro
  isplitl [Hg]; · iexact Hg
  isplitl [Hs]; · iexact Hs
  isplitl [He]; · iexact He
  unfold outAt row0; iexact Ho

/-- The barrier wait, owing the copies: every device's slot for `c` comes with it; the barrier cell is closed. -/
theorem bar_phase :
    iprop((cred (tallyAt (barCell c) () 16) ∗ atPos ER (barCell c) 0 ∅ 0) ∗ levAts L lv ∗ oweSend m ρ K c devs)
      ⊢ wp frame (wpE (defs₀ (F := F)) 𝒱₀ (c : Thread nD τ) none) Set.univ (semWaitWord barS 16#32)
          (fun _ => iprop(((bigSep Finset.univ fun d : Dev nD => barPay c d) ∗ semVal (barCell c) 0) ∗ oweSend m ρ K c devs)) := by
  unfold oweSend
  simp only [semWaitWord, Prog.lift]
  iintro ⟨⟨Hc, Hat⟩, #Hlev, #HR, ⟨%W, HO⟩⟩
  iapply (Rounds.wp_wait_rest_token 𝒱₀ ER (sched m ρ) (c : Thread nD τ) none (κ := K (c, .inl ()))
      (wpE_semWait_eq 𝒱₀ (c : Thread nD τ) none Set.univ) (Set.mem_univ _) () (O := owedR c devs) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  rw [wp_ret]
  imod (Rounds.cell_close ER (sched m ρ) (Set.mem_univ (K (c, .inl ()))) (fun h => h) (R := 0 + 1) (duties_later m ρ (barCell c))) $$ [Hat] with Hz
  · isplitr; · iapply (inv_at m ρ K (c, .inl ())); iexact HR
    iexact Hat
  imodintro
  ihave Hp := (Entails.of_eq (rest_bar m ρ c)) $$ Hpay
  isplitl [Hp Hz]; · isplitl [Hp] <;> iassumption
  isplitr; · iexact HR
  iexists _; iexact HO

/-- The gathered buffer held whole is its slots. -/
theorem pts_slots (f : Buf (Elt F) ((c : Thread nD τ).loc cc0_scratch2)) :
    pts c cc0_scratch2 f = bigSep Finset.univ fun s : Dev nD => slotPts c s f := slots_eq c f

/-- The signals: each device is handed its slot, whatever it holds. -/
theorem sig_phase (f : Buf (Elt F) ((c : Thread nD τ).loc cc0_scratch2)) :
    iprop(((bigSep Finset.univ fun p : Dev nD => dutyTok ER (barCell p) 0 c) ∗ pts c cc0_scratch2 f) ∗ oweSig m ρ K c devs)
      ⊢ wp frame (wpE (defs₀ (F := F)) 𝒱₀ (c : Thread nD τ) none) Set.univ (runAll sigP devs)
          (fun _ => iprop((bigSep Finset.univ fun _ : Dev nD => iprop(emp)) ∗ oweSig m ρ K c [])) := by
  rw [pts_slots, ← bigSep_sep']
  have h (p : Dev nD) : iprop(dutyTok ER (barCell p) 0 c ∗ slotPts c p f) ⊢ (iprop(dutyTok ER (barCell p) 0 c ∗ barPay p c) : sProp 𝕄) := by
    unfold barPay
    iintro ⟨Ht, H⟩
    isplitl [Ht]; · iexact Ht
    iexists f; iexact H
  exact (sep_mono_left (bigSep_mono fun p _ => h p)).trans (wp_runDevs c sigP _ _ (oweSig m ρ K c) (sig_step m ρ K c))

/-- The sends: each takes a share of the statistics and the slot it was handed. -/
theorem send_phase :
    iprop(((bigSep Finset.univ fun p : Dev nD => barPay c p) ∗ (bigSep Finset.univ fun p : Dev nD => stPts m ρ (shareTok fullShare 16 p) c)
        ∗ (bigSep Finset.univ fun p : Dev nD => dutyTok ER (sendCell c p) 0 0) ∗ (bigSep Finset.univ fun p : Dev nD => dutyTok ER (recvCell p c) 0 0))
        ∗ oweSend m ρ K c devs)
      ⊢ wp frame (wpE (defs₀ (F := F)) 𝒱₀ (c : Thread nD τ) none) Set.univ (runAll (sendP c) devs)
          (fun _ => iprop((bigSep Finset.univ fun p : Dev nD => cred (tallyAt (sendCell c p) () N)) ∗ oweSend m ρ K c [])) := by
  rw [← bigSep_sep', ← bigSep_sep', ← bigSep_sep']
  exact wp_runDevs c (sendP c) _ _ (oweSend m ρ K c) (send_step m ρ K c)

/-- The landings: the gathered buffer is whole again, at the statistics of all. -/
theorem recv_phase :
    iprop(((bigSep Finset.univ fun p : Dev nD => cred (tallyAt (recvCell c p) () N)) ∗ (bigSep Finset.univ fun p : Dev nD => atPos ER (recvCell c p) 0 ∅ 0))
        ∗ oweNone m ρ K c devs)
      ⊢ wp frame (wpE (defs₀ (F := F)) 𝒱₀ (c : Thread nD τ) none) Set.univ (runAll recvP devs)
          (fun _ => iprop((pts c cc0_scratch2 (gath m ρ) ∗ bigSep Finset.univ fun p : Dev nD => semVal (recvCell c p) 0) ∗ oweNone m ρ K c [])) := by
  rw [pts_slots, ← bigSep_sep', ← bigSep_sep']
  exact wp_runDevs c recvP _ _ (oweNone m ρ K c) (recv_step m ρ K c)

/-- The departures: the shares of the statistics are back. -/
theorem drain_phase :
    iprop(((bigSep Finset.univ fun p : Dev nD => cred (tallyAt (sendCell c p) () N)) ∗ (bigSep Finset.univ fun p : Dev nD => atPos ER (sendCell c p) 0 ∅ 0))
        ∗ oweNone m ρ K c devs)
      ⊢ wp frame (wpE (defs₀ (F := F)) 𝒱₀ (c : Thread nD τ) none) Set.univ (runAll (drainP c) devs)
          (fun _ => iprop(((bigSep Finset.univ fun p : Dev nD => stPts m ρ (shareTok fullShare 16 p) c) ∗ bigSep Finset.univ fun p : Dev nD => semVal (sendCell c p) 0)
            ∗ oweNone m ρ K c [])) := by
  rw [← bigSep_sep', ← bigSep_sep']
  exact wp_runDevs c (drainP c) _ _ (oweNone m ρ K c) (drain_step m ρ K c)

/-- With every signal out only the copies are owed, -/
theorem owe_sig_nil : (oweSig m ρ K c [] : sProp 𝕄) = oweSend m ρ K c devs := by
  unfold oweSig oweSend
  rw [show (owedB [] : CellTallies nD τ sig Unit) = 0 from rfl]
  simp only [add_zero]
/-- and with every copy out nothing. -/
theorem owe_send_nil (l : List (Dev nD)) : (oweSend m ρ K c [] : sProp 𝕄) = oweNone m ρ K c l := by
  unfold oweNone oweSend
  rw [show (owedR c [] : CellTallies nD τ sig Unit) = 0 from rfl]

end Phases

/-! ## The body -/

section Body

variable (K : Dev nD × CellIx → ℕ)

/-- The state a device enters its body in, its windows' buffers staged. -/
def bodyPre (c : Dev nD) (fo : Buf (Elt F) ((c : Thread nD τ).loc cc0_stg1_0)) : sProp 𝕄 :=
  iprop((ghost m ρ K c ∗ credits c ∗ levAts L lv ∗ scratch c) ∗ (∃ W, owes (c : Thread nD τ) (O₀ c) W)
    ∗ pts c cc0_stg0_0 (xstg m ρ c) ∗ pts c cc0_stg1_0 fo)
/-- The state it leaves it in. -/
def bodyPost (c : Dev nD) : sProp 𝕄 :=
  iprop(Φ₁ (F := F) c ∗ (∃ W, owes (c : Thread nD τ) 0 W) ∗ pts c cc0_stg0_0 (xstg m ρ c) ∗ pts c cc0_stg1_0 (outAt m ρ c))

/-- The body takes the one to the other. -/
theorem sound_body (c : Dev nD) (fo : Buf (Elt F) ((c : Thread nD τ).loc cc0_stg1_0)) :
    bodyPre m ρ K c fo
      ⊢ wp frame (wpE (defs₀ (F := F)) 𝒱₀ (c : Thread nD τ) none) Set.univ
          (cc0_body xM (Memref.isWhole_whole _) oM (Memref.isWhole_whole _) eM (Memref.isWhole_whole _) stM (Memref.isWhole_whole _)
            gM (Memref.isWhole_whole _) cc0_scratch3 cc0_scratch4) (fun _ => bodyPost m ρ c) := by
  rw [body_eq]
  unfold loopBody bodyPre ghost linear credits scratch
  simp only [Prog.lift, Prog.bind_op, Prog.bind_ret, wp_deviceId, wp_bind]
  iintro ⟨⟨⟨#HR, HatB, HatS, HatV, HtB, HtS, HtV⟩, ⟨HcB, HcV⟩, #Hlev, ⟨%fe, He⟩, ⟨%fs, Hs⟩, ⟨%fg, Hg⟩⟩, ⟨%W, HO⟩, Hx, Ho⟩
  iapply (run_then c (sig_phase m ρ K c fg)) $$ [HtB Hg HO]
  · isplitl [HtB Hg]; · isplitl [HtB] <;> iassumption
    unfold oweSig O₀
    isplitr; · iexact HR
    iexists W; iexact HO
  rw [owe_sig_nil]
  iintro ⟨-, HO⟩
  iapply (run_then c (prep_phase m ρ c fe fs)) $$ [Hx He Hs]
  · isplitl [Hx]; · iexact Hx
    isplitl [He] <;> iassumption
  iintro ⟨Hx, He, Hs⟩
  iapply (run_then c (bar_phase m ρ K c)) $$ [HcB HatB HO]
  · isplitl [HcB HatB]; · isplitl [HcB] <;> iassumption
    isplitr; · iexact Hlev
    iexact HO
  iintro ⟨⟨Hb, HzB⟩, HO⟩
  ihave Hs' := (shares_eq m ρ c).1 $$ Hs
  icases Hs' with ⟨Hr, Hs⟩
  iapply (run_then c (send_phase m ρ K c)) $$ [Hb Hs HtS HtV HO]
  · isplitr [HO]
    · isplitl [Hb]; · iexact Hb
      isplitl [Hs]; · iexact Hs
      isplitl [HtS] <;> iassumption
    iexact HO
  rw [owe_send_nil m ρ K c devs]
  iintro ⟨HcS, HO⟩
  iapply (run_then c (recv_phase m ρ K c)) $$ [HcV HatV HO]
  · isplitr [HO]; · isplitl [HcV] <;> iassumption
    iexact HO
  rw [← owe_send_nil m ρ K c [], owe_send_nil m ρ K c devs]
  iintro ⟨⟨Hg, HzV⟩, HO⟩
  iapply (run_then c (comb_phase m ρ c (shareDrop fullShare 16) fo)) $$ [Hg Hr He Ho]
  · isplitl [Hg]; · iexact Hg
    isplitl [Hr]; · iexact Hr
    isplitl [He] <;> iassumption
  iintro ⟨Hg, Hr, He, Ho⟩
  iapply (run_then c (drain_phase m ρ K c)) $$ [HcS HatS HO]
  · isplitr [HO]; · isplitl [HcS] <;> iassumption
    iexact HO
  iintro ⟨⟨Hs, HzS⟩, HO⟩
  ihave Hs := (shares_eq m ρ c).2 $$ [Hr Hs]
  · isplitl [Hr] <;> iassumption
  unfold bodyPost Φ₁ scratch oweNone
  isplitl [He Hs Hg HzS HzV HzB]
  · isplitl [He Hs Hg]
    · isplitl [He]; · iexists _; iexact He
      isplitl [Hs]; · iexists _; iexact Hs
      iexists _; iexact Hg
    isplitl [HzS]; · iexact HzS
    isplitl [HzV] <;> iassumption
  icases HO with ⟨-, HO⟩
  isplitl [HO]; · iexact HO
  isplitl [Hx] <;> iassumption

omit [FloatOps F] in
/-- Ownership of a whole buffer through its view is ownership of the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pts c b f) := by
  unfold owns; simp only [Memref.view_whole, View.read_whole, View.set_whole]

/-- The state of a device at the point, as the pipeline gives it, -/
def pointPre (c : Dev nD) : sProp 𝕄 :=
  iprop(Φ₀ m ρ c ∗ (dats m ρ 0 c).owesAt () t0_0.castSucc
    ∗ (∃ d, ∃ f, ⌜f = (dats m ρ 0 c).before (0 : Fin 2) t0_0 d⌝ ∗ pts c cc0_stg0_0 f)
    ∗ (∃ d, ∃ f, ⌜f = (dats m ρ 0 c).before (1 : Fin 2) t0_0 d⌝ ∗ pts c cc0_stg1_0 f))
/-- and as it takes it back. -/
def pointPost (c : Dev nD) : sProp 𝕄 :=
  iprop(Φ₁ (F := F) c ∗ (dats m ρ 0 c).owesAt () t0_0.succ ∗ (∃ f, ⌜f = xstg m ρ c⌝ ∗ pts c cc0_stg0_0 f)
    ∗ (∃ f, ⌜f = outAt m ρ c⌝ ∗ pts c cc0_stg1_0 f))

/-- The body at the point. -/
theorem sound_point (c : Dev nD) :
    pointPre m ρ c
      ⊢ wp frame (wpE (defs₀ (F := F)) 𝒱₀ (c : Thread nD τ) none) Set.univ
          (cc0_body xM (Memref.isWhole_whole _) oM (Memref.isWhole_whole _) eM (Memref.isWhole_whole _) stM (Memref.isWhole_whole _)
            gM (Memref.isWhole_whole _) cc0_scratch3 cc0_scratch4) (fun _ => pointPost m ρ c) := by
  have hpost : bodyPost m ρ c ⊢ pointPost m ρ c := by
    unfold bodyPost pointPost Dat.owesAt Pipeline.owesWithin
    rw [show (dats m ρ 0 c).owed t0_0.succ = 0 from rfl]
    iintro ⟨HΦ, ⟨%W, HO⟩, Hx, Ho⟩
    isplitl [HΦ]; · iexact HΦ
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Ho
  unfold pointPre Φ₀ start Dat.owesAt Pipeline.owesWithin
  iintro ⟨⟨⟨⟨%K, Hg⟩, Hc, Hl⟩, Hsc⟩, ⟨%W, %hW, HO⟩, ⟨%d0, %g0, %hg0, Hx⟩, ⟨%d1, %g1, %hg1, Ho⟩⟩
  have hx : g0 = xstg m ρ c := by rw [hg0]; unfold Dat.before; rw [if_pos (fetch0_0 t0_0)]; rfl
  subst hx
  iapply ((sound_body m ρ K c g1).trans (wp_mono _ _ _ fun _ => hpost))
  unfold bodyPre
  isplitl [Hg Hc Hl Hsc]
  · isplitl [Hg]; · iexact Hg
    isplitl [Hc]; · iexact Hc
    isplitl [Hl] <;> iassumption
  isplitl [HO]
  · iexists W
    rw [show (dats m ρ 0 c).owed t0_0.castSucc = O₀ c from rfl]
    iexact HO
  isplitl [Hx] <;> iassumption

/-- The library's obligation on the body of device `c`. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  exact sound_point m ρ c

end Body

end Cert.KernelIdeal.Proto

end
-- ==== Proof.Ideal.Launch.lean ====
/-
# The launch

The cells' invariants are made from the semaphores at zero, the tokens of the duties are dealt to the devices that pay
them, and the program runs: `run_main`, with the result array's contents on every device.
-/
module

public import proofs.«01_k».proof.Proof.Ideal.Body
public import Idealize.ShloMosaic.Lib.Pipeline.CollectiveSegs

@[expose] public section

noncomputable section

namespace Cert.KernelIdeal.Proto

open Cert.KernelIdeal Cert.KernelIdeal.Gen
open Idealize.ShloMosaic Idealize.ShloMosaic.TcCoe
open Idealize.ShloMosaic.Pipeline (Dat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells, listed -/

/-- Departure semaphores of different destinations differ, -/
theorem sendS_inj {p q : Dev nD} (h : sendS p = sendS q) : p = q :=
  Fin.ext (Nat.add_right_cancel ((sendS_val p).symm.trans ((congrArg Fin.val h).trans (sendS_val q))))
/-- landing semaphores of different sources differ, -/
theorem recvS_inj {p q : Dev nD} (h : recvS p = recvS q) : p = q :=
  Fin.ext (Nat.add_right_cancel ((recvS_val p).symm.trans ((congrArg Fin.val h).trans (recvS_val q))))
/-- and no departure semaphore is a landing semaphore. -/
theorem sendS_ne_recvS (p q : Dev nD) : sendS p ≠ recvS q := fun h => by
  have := congrArg Fin.val h
  rw [sendS_val, recvS_val] at this
  have := p.isLt; simp only [nD] at this; omega

/-- The cells of one device have different semaphores, -/
theorem csem_injective : Function.Injective csem := by
  rintro (⟨⟩ | p | p) (⟨⟩ | q | q) h
  · rfl
  · cases h
  · cases h
  · cases h
  · rw [sendS_inj (SemLoc.dma.inj h)]
  · exact absurd (SemLoc.dma.inj h) (sendS_ne_recvS p q)
  · cases h
  · exact absurd (SemLoc.dma.inj h).symm (sendS_ne_recvS q p)
  · rw [recvS_inj (SemLoc.dma.inj h)]

/-- so all cells are different. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells. -/
def allCells : Finset (GSem nD τ sig) := Finset.univ.map ⟨kcell, kcell_injective⟩

/-- A duty: a device's signal to a barrier, or a copy at its departure or landing. -/
abbrev tokOf (x : Dev nD × (Dev nD ⊕ (Dev nD ⊕ Dev nD))) : GSem nD τ sig × ℕ × Dev nD := match x.2 with
  | .inl d => (barCell x.1, 0, d)
  | .inr (.inl p) => (sendCell x.1 p, 0, 0)
  | .inr (.inr p) => (recvCell x.1 p, 0, 0)

/-- Different duties have different tokens. -/
theorem tokOf_injective : Function.Injective tokOf := by
  rintro ⟨c, k⟩ ⟨c', k'⟩ h
  have hc : c = c' := by
    have := congrArg (fun x : GSem nD τ sig × ℕ × Dev nD => x.1.1.1) h
    rcases k with d | p | p <;> rcases k' with d' | p' | p' <;> exact this
  have hs : (tokOf (c, k)).1.2 = (tokOf (c', k')).1.2 := congrArg (fun x : GSem nD τ sig × ℕ × Dev nD => x.1.2) h
  have hd : (tokOf (c, k)).2.2 = (tokOf (c', k')).2.2 := congrArg (fun x : GSem nD τ sig × ℕ × Dev nD => x.2.2) h
  subst hc
  congr 1
  rcases k with d | p | p <;> rcases k' with d' | p' | p'
  · exact congrArg Sum.inl hd
  · cases hs
  · cases hs
  · cases hs
  · rw [sendS_inj (SemLoc.dma.inj hs)]
  · exact absurd (SemLoc.dma.inj hs) (sendS_ne_recvS p p')
  · cases hs
  · exact absurd (SemLoc.dma.inj hs).symm (sendS_ne_recvS p' p)
  · rw [recvS_inj (SemLoc.dma.inj hs)]

/-- All duties. -/
def allToks : Finset (GSem nD τ sig × ℕ × Dev nD) := Finset.univ.map ⟨tokOf, tokOf_injective⟩

/-- The launch element: the pipeline's, and the exchange's. -/
def u₀ : UU := (initOf (Pipeline.cells cfgs cellOf_inj) (Pipeline.launchToks cfgs cellOf_inj), initOf allCells allToks)

/-- The tokens of the duties at device `c`'s own cells. -/
def toks (c : Dev nD) : sProp 𝕄 :=
  iprop((bigSep Finset.univ fun d : Dev nD => dutyTok ER (barCell c) 0 d)
    ∗ (bigSep Finset.univ fun p : Dev nD => dutyTok ER (sendCell c p) 0 0)
    ∗ (bigSep Finset.univ fun p : Dev nD => dutyTok ER (recvCell c p) 0 0))

/-- What the launch element deals device `c`, -/
def G (c : Dev nD) : sProp 𝕄 :=
  iprop((bigSep Finset.univ fun k : CellIx => roundState ER (sched m ρ) (kcell (c, k)) 0)
    ∗ (bigSep Finset.univ fun k : CellIx => atPos ER (kcell (c, k)) 0 ∅ 0)
    ∗ (bigSep Finset.univ fun k : CellIx => reached ER (kcell (c, k)) 0) ∗ toks c)
/-- and what the invariants make of it. -/
def G' (c : Dev nD) : sProp 𝕄 := iprop(∃ K, ghost m ρ K c)

omit [FloatOps F] in
/-- Over the cells of one device: its barrier, its departures, its landings. -/
theorem bigSep_cells (Φ : CellIx → sProp 𝕄) : bigSep Finset.univ Φ
    = iprop(Φ (.inl ()) ∗ (bigSep Finset.univ fun p : Dev nD => Φ (.inr (.inl p))) ∗ bigSep Finset.univ fun p : Dev nD => Φ (.inr (.inr p))) := by
  have h1 : (bigSep Finset.univ fun u : Unit => Φ (.inl u)) = Φ (.inl ()) := bigSep_singleton
  have h2 : (bigSep Finset.univ fun k : Dev nD ⊕ Dev nD => Φ (.inr k))
      = iprop((bigSep Finset.univ fun p : Dev nD => Φ (.inr (.inl p))) ∗ bigSep Finset.univ fun p : Dev nD => Φ (.inr (.inr p))) := bigSep_univ_sum _
  have h3 : bigSep Finset.univ Φ = iprop((bigSep Finset.univ fun u : Unit => Φ (.inl u)) ∗ bigSep Finset.univ fun k : Dev nD ⊕ Dev nD => Φ (.inr k)) :=
    bigSep_univ_sum Φ
  rw [h3, h1, h2]

omit [FloatOps F] in
/-- Over the duties likewise. -/
theorem bigSep_duties (Φ : Dev nD ⊕ (Dev nD ⊕ Dev nD) → sProp 𝕄) : bigSep Finset.univ Φ
    = iprop((bigSep Finset.univ fun d : Dev nD => Φ (.inl d)) ∗ (bigSep Finset.univ fun p : Dev nD => Φ (.inr (.inl p)))
      ∗ bigSep Finset.univ fun p : Dev nD => Φ (.inr (.inr p))) := by
  have h2 : (bigSep Finset.univ fun k : Dev nD ⊕ Dev nD => Φ (.inr k))
      = iprop((bigSep Finset.univ fun p : Dev nD => Φ (.inr (.inl p))) ∗ bigSep Finset.univ fun p : Dev nD => Φ (.inr (.inr p))) := bigSep_univ_sum _
  have h3 : bigSep Finset.univ Φ = iprop((bigSep Finset.univ fun d : Dev nD => Φ (.inl d)) ∗ bigSep Finset.univ fun k : Dev nD ⊕ Dev nD => Φ (.inr k)) :=
    bigSep_univ_sum Φ
  rw [h3, h2]

/-- The launch element funds every device. -/
theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_duties]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The invariants -/

/-- The kernel's own semaphores: the departures' and the landings'. -/
abbrev osem (k : Dev nD ⊕ Dev nD) : SemLoc sig := csem (.inr k)

/-- They are scoped, pairwise different and none of the staging ones. -/
theorem ownSemFacts : Pipeline.OwnSemFacts cfg0.spec osem where
  isScoped := by decide
  inj := fun a b h => Sum.inr.inj (csem_injective h)
  disj := by decide

omit [FloatOps F] in
/-- All of them at zero are the departures and the landings at zero. -/
theorem ownSems0_eq (c : Dev nD) : (Pipeline.ownSems0 (Ix := Unit) (Name := ℕ) (U := UU) (Lvl := ℕ) (Val := Elt F) (τ := τ) osem c : sProp 𝕄)
    = iprop((bigSep Finset.univ fun p : Dev nD => semVal (sendCell c p) 0) ∗ bigSep Finset.univ fun p : Dev nD => semVal (recvCell c p) 0) :=
  bigSep_univ_sum _
omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All the cells of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cells]
  iintro ⟨⟨HS, HV⟩, HB⟩
  isplitl [HB]; · iexact HB
  isplitl [HS] <;> iassumption

/-- The invariants of one device's cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (sched m ρ) κ (kcell (c, k))))
          ∗ (bigSep Finset.univ fun k : CellIx => atPos ER (kcell (c, k)) 0 ∅ 0)
          ∗ (bigSep Finset.univ fun k : CellIx => reached ER (kcell (c, k)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (sched m ρ) (kcell (c, k)) 0)
      ⊢ (|={Set.univ}=> bigSep Finset.univ fun k : CellIx => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

omit [FloatOps F] in
/-- The tokens are dealt: a signal's to its sender, a landing's to the sender of the copy. -/
theorem toks_dealt : (bigSep Finset.univ fun c : Dev nD => (toks c : sProp 𝕄))
    = iprop((bigSep Finset.univ fun c : Dev nD => bigSep Finset.univ fun p : Dev nD => dutyTok ER (barCell p) 0 c)
      ∗ (bigSep Finset.univ fun c : Dev nD => bigSep Finset.univ fun p : Dev nD => dutyTok ER (sendCell c p) 0 0)
      ∗ (bigSep Finset.univ fun c : Dev nD => bigSep Finset.univ fun p : Dev nD => dutyTok ER (recvCell p c) 0 0)) := by
  unfold toks
  rw [bigSep_sep', bigSep_sep', bigSep_univ_comm (fun c d : Dev nD => (dutyTok ER (barCell c) 0 d : sProp 𝕄)),
    bigSep_univ_comm (fun c p : Dev nD => (dutyTok ER (recvCell c p) 0 0 : sProp 𝕄))]

omit [FloatOps F] in
/-- With the positions they are what each device keeps. -/
theorem linear_eq : iprop((bigSep Finset.univ fun c : Dev nD => bigSep Finset.univ fun k : CellIx => atPos ER (kcell (c, k)) 0 ∅ 0)
      ∗ bigSep Finset.univ fun c : Dev nD => toks c)
    ⊢ (bigSep Finset.univ fun c : Dev nD => linear c : sProp 𝕄) := by
  rw [toks_dealt, bigSep_congr (s := Finset.univ) fun (c : Dev nD) _ => bigSep_cells (F := F) fun k : CellIx => atPos ER (kcell (c, k)) 0 ∅ 0]
  unfold linear
  rw [bigSep_sep', bigSep_sep', bigSep_sep', bigSep_sep', bigSep_sep', bigSep_sep', bigSep_sep']
  iintro ⟨⟨H1, H2, H3⟩, H4, H5, H6⟩
  isplitl [H1]; · iexact H1
  isplitl [H2]; · iexact H2
  isplitl [H3]; · iexact H3
  isplitl [H4]; · iexact H4
  isplitl [H5] <;> iassumption

/-- Every device knows all the invariants. -/
theorem regroup :
    (bigSep Finset.univ fun c : Dev nD => iprop((bigSep Finset.univ fun k : CellIx => iprop(∃ κ : ℕ, cellInv ER (sched m ρ) κ (kcell (c, k))))
          ∗ (bigSep Finset.univ fun k : CellIx => atPos ER (kcell (c, k)) 0 ∅ 0)
          ∗ (bigSep Finset.univ fun k : CellIx => reached ER (kcell (c, k)) 0) ∗ toks c) : sProp 𝕄)
      ⊢ bigSep Finset.univ (G' m ρ) := by
  rw [bigSep_sep', bigSep_sep', bigSep_sep', ← bigSep_univ_prod (fun ck : Dev nD × CellIx => iprop(∃ κ : ℕ, cellInv ER (sched m ρ) κ (kcell ck))),
    ← bigSep_univ_prod (fun ck : Dev nD × CellIx => (reached ER (kcell ck) 0 : sProp 𝕄))]
  iintro ⟨HI, Hat, #HR, Htok⟩
  ihave HK := (BI.bigSep_exists_pi Finset.univ (fun (ck : Dev nD × CellIx) (κ : ℕ) => (cellInv ER (sched m ρ) κ (kcell ck) : sProp 𝕄))) $$ HI
  icases HK with ⟨%K, #HI⟩
  have hg (c : Dev nD) : iprop(records m ρ K ∗ linear c) ⊢ (G' m ρ c : sProp 𝕄) := by
    unfold G' ghost; iintro H; iexists K; iexact H
  iapply (BI.bigSep_with_persistent (R := records m ρ K) fun c _ => hg c)
  isplitr
  · unfold records; isplitl; · iexact HI
    iexact HR
  iapply (linear_eq (F := F))
  isplitl [Hat] <;> iassumption

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A sum over the list of devices is the sum over the devices. -/
theorem sum_devs (f : Dev nD → CellTallies nD τ sig Unit) : (devs.map f).sum = ∑ p : Dev nD, f p :=
  (List.sum_toFinset f (l := devs) (by decide)).symm.trans (Finset.sum_congr (by decide) fun _ _ => rfl)

/-- What is owed to device `c`, by device: a unit at its barrier and a copy's credit at its landing cell. -/
def dues (c : Dev nD) : CellTallies nD τ sig Unit :=
  (∑ p : Dev nD, tallyAt (recvCell c p) () N) + ∑ _p : Dev nD, tallyAt (barCell c) () 1

/-- What all devices owe is what is owed to all devices. -/
theorem dues_sum : (∑ d, O₀ d) = ∑ d, dues d := by
  unfold O₀ dues owedR owedB
  simp only [sum_devs]
  rw [Finset.sum_add_distrib, Finset.sum_add_distrib]
  congr 1
  · exact Finset.sum_comm
  · exact Finset.sum_comm

/-- What is owed to a device is owed at its own cells. -/
theorem dues_own (c : Dev nD) (g : GSem nD τ sig) (h : dues c g ≠ 0) : g.1 = (c : Thread nD τ) := by
  by_contra hn
  refine h ?_
  unfold dues
  rw [Pi.add_apply, Finset.sum_apply, Finset.sum_apply]
  rw [Finset.sum_eq_zero fun p _ => tallyAt_ne_cell (fun e => hn (congrArg Prod.fst e)) () N,
    Finset.sum_eq_zero fun p _ => tallyAt_ne_cell (fun e => hn (congrArg Prod.fst e)) () 1, add_zero]

/-- Sixteen single units are sixteen units. -/
theorem bar_total (c : Dev nD) : (∑ _p : Dev nD, tallyAt (barCell c) () 1) = (tallyAt (barCell c) () 16 : CellTallies nD τ sig Unit) := by
  have h (n : ℕ) : n • (tallyAt (barCell c) () 1 : CellTallies nD τ sig Unit) = tallyAt (barCell c) () n := by
    induction n with
    | zero => rw [zero_smul, tallyAt_zero]
    | succ n ih => rw [succ_nsmul, ih, tallyAt_add]
  rw [Finset.sum_const, h]
  rfl

omit [FloatOps F] in
/-- The launch credit is what the device's waits take. -/
theorem creds (c : Dev nD) : (Pipeline.launchCred O₀ c : sProp 𝕄) ⊢ credits c := by
  rw [Pipeline.launchCred_of_sum O₀ dues dues_sum dues_own c]
  unfold dues credits
  rw [bar_total, ← Pipeline.cred_finsetSum]
  exact (cred_add _ _).1.trans sep_symm

/-! ## The run -/

/-- Every window holds its array whole. -/
theorem share_eq (c : Dev nD) (w : Fin cfg0.W) : (dats m ρ 0 c).share w = fullShare := by unfold Pipeline.Dat.share; split <;> rfl

/-- The launch gives a device the start of its exchange, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- which with the scratch buffers is what the body wants. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- After the body all semaphores of the kernel are at zero and the scratch buffers are back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS] <;> iassumption
  iexact Hr

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- An array's contents after the run. -/
def finalA (c : Dev nD) (w : Fin cfg0.W) : Buf (Elt F) ((cfg0.win w).arr.view.loc (c : Thread nD τ)) := (dats m ρ 0 c).arrAt w cfg0.N

set_option maxRecDepth 8000 in
/-- Every run of the program ends, with each array at its final contents and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand holds what it held. -/
theorem finalA_arg (c : Dev nD) : finalA m ρ c (0 : Fin 2) = m ((c : Thread nD τ).loc main_arg0) :=
  (dats (F := F) m ρ 0 c).arrAt_in (0 : Fin 2) rfl _

/-- The staged block is the operand. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array holds what the body stored. -/
theorem finalA_out (c : Dev nD) : finalA m ρ c (1 : Fin 2) = outAt m ρ c := by
  have ho : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  rw [← ho]
  exact (Memref.read_access_unit_zero (Elt F) main_v1 hz (fun a => by fin_cases a <;> decide) _).symm

/-- Every run of the program ends, with each device's result array at the computed contents, its operand unchanged and
    every counter at zero. -/
theorem run_main : θ_run defs (onTc (τ := τ) (main (F := F))) (s₀ m ρ) (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_out m ρ c), (h.1 c (0 : Fin 2)).trans (finalA_arg m ρ c)⟩, h.2⟩)
    (run_arrays m ρ)

end Cert.KernelIdeal.Proto

end
-- ==== Proof.Softmax.lean ====
/-
# The softmax of a row cut into blocks

A row of extended reals is cut into blocks. Every block takes its own maximum `m_d`, its exponentials `exp (x - m_d)` and
their sum `s_d`. With `M` the maximum of the `m_d`, and `S` the sum of the `s_d * exp (m_d - M)`, an element's
`exp (x - m_c) * (exp (m_c - M) / S)` is its quotient in the softmax of the whole row. The block maxima must be finite;
an element may be `-∞`, whose exponential is zero.
-/
module

public import Idealize.ShloMosaic.Lib.IdealHost

@[expose] public section

noncomputable section

namespace Cert.Softmax

open Idealize.ShloMosaic

/-- The greatest of finitely many extended reals, `⊥` of none. -/
def top {ι : Type} [Fintype ι] (f : ι → EReal) : EReal := Finset.univ.fold max ⊥ f

/-- It is the supremum, -/
theorem top_eq_iSup {ι : Type} [Fintype ι] (f : ι → EReal) : top f = ⨆ i, f i :=
  (show top f = Finset.univ.sup f from rfl).trans (Finset.sup_univ_eq_iSup f)

/-- and an upper bound. -/
theorem le_top_of {ι : Type} [Fintype ι] (f : ι → EReal) (i : ι) : f i ≤ top f := by
  rw [top_eq_iSup]; exact le_iSup f i

/-- The exponential of an extended real below `⊤`, as a real. -/
def expR (x : EReal) : ℝ := if x = ⊥ then 0 else Real.exp x.toReal

/-- It is never negative, -/
theorem expR_nonneg (x : EReal) : 0 ≤ expR x := by
  unfold expR; split
  · exact le_rfl
  · exact (Real.exp_pos _).le

/-- and positive above `⊥`. -/
theorem expR_pos {x : EReal} (h : x ≠ ⊥) : 0 < expR x := by
  unfold expR; rw [if_neg h]; exact Real.exp_pos _

/-- The exponential of a difference with a real. -/
theorem exp_sub {x : EReal} (hx : x ≠ ⊤) (μ : ℝ) : Ideal.exp (x - (μ : EReal)) = ((expR x * Real.exp (-μ) : ℝ) : EReal) := by
  induction x using EReal.rec with
  | bot => rw [EReal.bot_sub]; unfold expR; rw [if_pos rfl, zero_mul]; rfl
  | top => exact absurd rfl hx
  | coe a =>
    rw [← EReal.coe_sub]; unfold expR; rw [if_neg (EReal.coe_ne_bot a), EReal.toReal_coe, ← Real.exp_add, ← sub_eq_add_neg]; rfl

/-- A sum of reals read as extended reals, -/
theorem coe_sum {ι : Type} [Fintype ι] (f : ι → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- and a quotient by a real that is not zero. -/
theorem div_coe' (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The quotient a block computes is the whole row's. -/
theorem block_quotient {ι κ : Type} [Fintype ι] [Fintype κ] (x : ι → κ → EReal)
    (hlo : ∀ d, ⊥ < top (x d)) (hhi : ∀ d, top (x d) < ⊤) (c : ι) (j : κ) :
    Ideal.exp (x c j - top (x c))
        * Ideal.div (Ideal.exp (top (x c) - top fun d => top (x d)))
            (∑ d, (∑ k, Ideal.exp (x d k - top (x d))) * Ideal.exp (top (x d) - top fun d => top (x d)))
      = Ideal.div (Ideal.exp (x c j - top fun d => top (x d))) (∑ d, ∑ k, Ideal.exp (x d k - top fun d => top (x d))) := by
  have hx (d : ι) (k : κ) : x d k ≠ ⊤ := ((le_top_of (x d) k).trans_lt (hhi d)).ne
  have hM : ∃ μ : ℝ, (top fun d => top (x d)) = (μ : EReal) := by
    refine ⟨_, (EReal.coe_toReal (ne_of_lt ?_) (ne_of_gt ((hlo c).trans_le (le_top_of (fun d => top (x d)) c)))).symm⟩
    exact (Finset.sup_lt_iff (s := Finset.univ) (f := fun d => top (x d)) (bot_lt_top)).2 fun d _ => hhi d
  obtain ⟨M, hM⟩ := hM
  have hm : ∀ d, ∃ μ : ℝ, top (x d) = (μ : EReal) := fun d => ⟨_, (EReal.coe_toReal (hhi d).ne (hlo d).ne').symm⟩
  choose m hm using hm
  have hp : 0 < ∑ d, ∑ k, expR (x d k) := by
    have : ∃ k, x c k ≠ ⊥ := by
      by_contra hn
      push Not at hn
      exact (hlo c).ne' (Finset.sup_eq_bot_iff _ _ |>.2 fun k _ => hn k)
    obtain ⟨k, hk⟩ := this
    exact Finset.sum_pos' (fun d _ => Finset.sum_nonneg fun k _ => expR_nonneg _)
      ⟨c, Finset.mem_univ c, Finset.sum_pos' (fun k _ => expR_nonneg _) ⟨k, Finset.mem_univ k, expR_pos hk⟩⟩
  have hq (d : ι) : expR ((m d : ℝ) : EReal) = Real.exp (m d) := by
    unfold expR; rw [if_neg (EReal.coe_ne_bot _), EReal.toReal_coe]
  have hc (d : ι) : Real.exp (-m d) * Real.exp (m d) = 1 := by rw [← Real.exp_add, neg_add_cancel, Real.exp_zero]
  have hS : (∑ d, (∑ k, expR (x d k) * Real.exp (-m d)) * (Real.exp (m d) * Real.exp (-M)))
      = (∑ d, ∑ k, expR (x d k)) * Real.exp (-M) := by
    rw [Finset.sum_mul]
    refine Finset.sum_congr rfl fun d _ => ?_
    rw [← Finset.sum_mul, mul_assoc, ← mul_assoc (Real.exp (-m d)), hc, one_mul]
  have hT : (∑ d, ∑ k, expR (x d k) * Real.exp (-M)) = (∑ d, ∑ k, expR (x d k)) * Real.exp (-M) := by
    simp only [Finset.sum_mul]
  have hpos : (∑ d, ∑ k, expR (x d k)) * Real.exp (-M) ≠ 0 := (mul_pos hp (Real.exp_pos _)).ne'
  rw [hM]
  simp only [hm, exp_sub (hx _ _), exp_sub (EReal.coe_ne_top _), hq, coe_sum, ← EReal.coe_mul]
  rw [hS, hT, div_coe' _ hpos, div_coe' _ hpos, ← EReal.coe_mul]
  congr 1
  rw [← mul_div_assoc, mul_assoc, ← mul_assoc (Real.exp (-m c)), hc, one_mul]

/-- The greatest over a row is the greatest of its blocks' greatest. -/
theorem top_blocks {ι κ ξ : Type} [Fintype ι] [Fintype κ] [Fintype ξ] (e : ι × κ ≃ ξ) (f : ξ → EReal) :
    top f = top fun d => top fun k => f (e (d, k)) := by
  simp only [top_eq_iSup]
  rw [← e.iSup_comp, iSup_prod]

/-- The sum over a row is the sum of its blocks' sums. -/
theorem sum_blocks {ι κ ξ : Type} [Fintype ι] [Fintype κ] [Fintype ξ] (e : ι × κ ≃ ξ) (f : ξ → EReal) :
    ∑ i, f i = ∑ d, ∑ k, f (e (d, k)) := by
  rw [← e.sum_comp, Fintype.sum_prod_type]

/-- The pattern of the negative infinity, -/
theorem ofBits_neg_inf : Ideal.ofBits .f32 0xFF800000#32 = ⊥ := by simp [Ideal.ofBits, Ideal.ieee]
/-- and of the positive one. -/
theorem ofBits_pos_inf : Ideal.ofBits .f32 0x7F800000#32 = ⊤ := by simp [Ideal.ofBits, Ideal.ieee]

end Cert.Softmax

end
-- ==== Proof.Ideal.Value.lean ====
/-
# The value

What the payloads compute, element by element, on the extended reals; the kernel's result on a device by the rows of all
devices' operands; and that it is the device's block of the reference's softmax.
-/
module

public import proofs.«01_k».proof.Proof.Ideal.Launch
public import proofs.«01_k».proof.Proof.Softmax
public import proofs.«01_k».proof.Proof.Gen.ReferenceIdeal.Run
public import proofs.«01_k».proof.Defs
public import Idealize.ShloMosaic.Lib.Pointwise
public import Idealize.ShloMosaic.Lib.Layout

@[expose] public section

noncomputable section

namespace Cert.KernelIdeal.Proto

open Cert.KernelIdeal Cert.KernelIdeal.Gen
open Idealize.ShloMosaic Idealize.ShloMosaic.TcCoe
open Cert.Softmax

set_option maxRecDepth 16384

/-- A block's exponentials are against its row's maximum, -/
theorem pay4_apply (x : Vec Ideal S1024x1024 .f32) (r j : Fin 1024) :
    k0_pay4 x (ix2 r j) = Ideal.exp (x (ix2 r j) - top fun k => x (ix2 r k)) := by
  pointwise [k0_pay4, k0_pay3, k0_pay2, k0_pay1, ofBits_neg_inf]
  rfl

/-- its statistics' first row is the rows' maxima -/
theorem pay5_apply0 (x : Vec Ideal S1024x1024 .f32) (r : Fin 1024) :
    k0_pay5 x (ix2 0 r) = top fun k => x (ix2 r k) := by
  pointwise [k0_pay5, k0_pay2, k0_pay1, ofBits_neg_inf]
  rfl

/-- and their second the sums of the exponentials. -/
theorem pay5_apply1 (x : Vec Ideal S1024x1024 .f32) (r : Fin 1024) :
    k0_pay5 x (ix2 1 r) = ∑ j, Ideal.exp (x (ix2 r j) - top fun k => x (ix2 r k)) := by
  pointwise [k0_pay5, k0_pay3, k0_pay2, k0_pay1, ofBits_neg_inf]
  rfl

/-- The combination of the gathered statistics, applied to a device's exponentials. -/
theorem pay6_apply (g : Vec Ideal S16x2x1024 .f32) (t : Vec Ideal S1x1024 .f32) (e : Vec Ideal S1024x1024 .f32) (r j : Fin 1024) :
    k0_pay6 g t e (ix2 r j) = e (ix2 r j) * Ideal.div (Ideal.exp (t (ix2 0 r) - top fun d => g (ix3 d 0 r)))
      (∑ d, g (ix3 d 1 r) * Ideal.exp (g (ix3 d 0 r) - top fun d => g (ix3 d 0 r))) := by
  pointwise [k0_pay6, ofBits_neg_inf]
  rfl

variable (m : (ℓ : Loc nD τ sig) → Buf (Elt Ideal) ℓ) (ρ : Dev nD → PrngReg)

/-- Row `r` of device `d`'s operand. -/
abbrev rowOf (d : Dev nD) (r : Fin 1024) (k : Fin 1024) : EReal := (m ((d : Thread nD τ).loc main_arg0) : Vec Ideal S1024x1024 .f32) (ix2 r k)

/-- The gathered maxima, -/
theorem gath0 (d : Dev nD) (r : Fin 1024) : gath m ρ (ix3 d 0 r) = top (rowOf m d r) := by
  have := pay5_apply0 (xstg m ρ d) r
  rw [xstg_eq] at this
  refine Eq.trans ?_ this
  show k0_pay5 (xstg m ρ d) _ = _
  rw [xstg_eq]
  exact congrArg _ (ix2_eq_valueIdx _ _).symm

/-- the gathered sums, -/
theorem gath1 (d : Dev nD) (r : Fin 1024) : gath m ρ (ix3 d 1 r) = ∑ j, Ideal.exp (rowOf m d r j - top (rowOf m d r)) := by
  have := pay5_apply1 (xstg m ρ d) r
  rw [xstg_eq] at this
  refine Eq.trans ?_ this
  show k0_pay5 (xstg m ρ d) _ = _
  rw [xstg_eq]
  exact congrArg _ (ix2_eq_valueIdx _ _).symm

/-- a device's own maxima -/
theorem row0_apply (c : Dev nD) (r : Fin 1024) : row0 m ρ c (ix2 0 r) = top (rowOf m c r) := by
  have := pay5_apply0 (xstg m ρ c) r
  rw [xstg_eq] at this
  refine Eq.trans ?_ this
  rw [← xstg_eq m ρ c]
  show k0_pay5 (xstg m ρ c) _ = _
  refine congrArg _ ?_
  funext a
  refine Fin.ext ?_
  match a with
  | ⟨0, _⟩ => rfl
  | ⟨1, _⟩ => show 0 + 1 * r.val = r.val; omega

/-- and its exponentials. -/
theorem expo_apply (c : Dev nD) (r j : Fin 1024) : expo m ρ c (ix2 r j) = Ideal.exp (rowOf m c r j - top (rowOf m c r)) := by
  unfold expo; rw [xstg_eq]; exact pay4_apply _ r j

/-- The kernel's result, by the rows of all devices. -/
theorem outAt_apply (c : Dev nD) (r j : Fin 1024) : outAt m ρ c (ix2 r j)
    = Ideal.exp (rowOf m c r j - top (rowOf m c r))
        * Ideal.div (Ideal.exp (top (rowOf m c r) - top fun d => top (rowOf m d r)))
            (∑ d, (∑ k, Ideal.exp (rowOf m d r k - top (rowOf m d r))) * Ideal.exp (top (rowOf m d r) - top fun d => top (rowOf m d r))) := by
  unfold outAt
  rw [pay6_apply, expo_apply, row0_apply]
  simp only [gath0, gath1]

/-! ## The reference -/

/-- The reference's result, the term its run ends with. -/
def refOut (X : FVec Ideal ReferenceIdeal.S1024x16384 .f32) : FVec Ideal ReferenceIdeal.S1024x16384 .f32 :=
  Host.divf (Host.exp (subf X (broadcastInDim ReferenceIdeal.S1024x16384 ![0, 1] ReferenceIdeal.Gen.bcast_S1024x1_S1024x16384_0_1
      (broadcastInDim ReferenceIdeal.S1024x1 ![0] ReferenceIdeal.Gen.bcast_S1024_S1024x1_0
        (Host.reduce FloatOps.maximumf X (constant ReferenceIdeal.S_ .f32 0xFF800000#32) ReferenceIdeal.Gen.reducesTo_S1024x16384_S1024_d1 ReferenceIdeal.Gen.h_S_)))))
    (broadcastInDim ReferenceIdeal.S1024x16384 ![0, 1] ReferenceIdeal.Gen.bcast_S1024x1_S1024x16384_0_1
      (broadcastInDim ReferenceIdeal.S1024x1 ![0] ReferenceIdeal.Gen.bcast_S1024_S1024x1_0
        (Host.reduceAdd (Host.exp (subf X (broadcastInDim ReferenceIdeal.S1024x16384 ![0, 1] ReferenceIdeal.Gen.bcast_S1024x1_S1024x16384_0_1
            (broadcastInDim ReferenceIdeal.S1024x1 ![0] ReferenceIdeal.Gen.bcast_S1024_S1024x1_0
              (Host.reduce FloatOps.maximumf X (constant ReferenceIdeal.S_ .f32 0xFF800000#32) ReferenceIdeal.Gen.reducesTo_S1024x16384_S1024_d1 ReferenceIdeal.Gen.h_S_)))))
          (constant ReferenceIdeal.S_ .f32 0x00000000#32) ReferenceIdeal.Gen.reducesTo_S1024x16384_S1024_d1 ReferenceIdeal.Gen.h_S_)))

/-- The softmax of the whole rows. -/
theorem refOut_apply (X : FVec Ideal ReferenceIdeal.S1024x16384 .f32) (r : Fin 1024) (l : Fin 16384) : refOut X (ix2 r l)
    = Ideal.div (Ideal.exp (X (ix2 r l) - top fun k : Fin 16384 => X (ix2 r k)))
        (∑ i : Fin 16384, Ideal.exp (X (ix2 r i) - top fun k : Fin 16384 => X (ix2 r k))) := by
  unfold top
  pointwise [refOut, ofBits_neg_inf]

/-- The columns of the whole by device and column of its block. -/
def col : Fin 16 × Fin 1024 ≃ Fin 16384 := finProdFinEquiv.trans (finCongr (by norm_num))

/-- The column that a column of a block is in the whole. -/
theorem col_val (c : Fin 16) (j : Fin 1024) : (col (c, j)).val = j.val + 1024 * c.val := by
  unfold col; rw [Equiv.trans_apply, finCongr_apply, Fin.val_cast, finProdFinEquiv_apply_val]

/-- Where the block's elements lie in the whole. -/
theorem block_idx (h : Layout.Tiles ⟨2, ![1024, 1024]⟩ ⟨2, ![1024, 16384]⟩ 1 16) (c : Fin 16) (r j : Fin 1024) :
    h.idx c (ix2 r j) = ix2 r (col (c, j)) := by
  funext a
  refine Fin.ext ?_
  match a with
  | ⟨0, _⟩ => rfl
  | ⟨1, _⟩ =>
    refine Eq.trans ?_ (col_val c j).symm
    show c.val * 1024 + j.val = _
    omega

/-! ## The precondition -/

/-- The side conditions of the precondition's operations. -/
theorem preFactsKernel : Cert.Pre_finite_row_maxima_KernelIdeal.Facts where
  reducesTo_S1024x1024_S1024_d1 := by decide
  h_S_ := by decide
  bcast_S_S1024 := by decide
/-- The same of the reference's whole array. -/
theorem preFactsReference : Cert.Pre_finite_row_maxima_ReferenceIdeal.Facts where
  reducesTo_S1024x16384_S1024_d1 := by decide
  h_S_ := by decide
  bcast_S_S1024 := by decide

/-- Two comparisons joined, at an index. -/
theorem both_apply {s : Shape} (a b b' : FVec Ideal s .f32) (i : s.Idx) :
    andi (cmpf .ogt a b) (cmpf .olt a b') i = IntOp.andi (BitVec.ofBool (decide (b i < a i))) (BitVec.ofBool (decide (a i < b' i))) := rfl

/-- A constant's broadcast, at an index. -/
theorem bcast_const {t : Shape} (b : BitVec 32) (h : (⟨0, ![]⟩ : Shape).BroadcastsInDim t (![] : Fin 0 → Fin t.rank)) (i : t.Idx) :
    broadcastInDim t ![] h (constant (F := Ideal) ⟨0, ![]⟩ .f32 b) i = Ideal.ofBits .f32 b := rfl

/-- The maximum of a block's row. -/
theorem rowMax_apply (x : FVec Ideal ⟨2, ![1024, 1024]⟩ .f32) (hR : (⟨2, ![1024, 1024]⟩ : Shape).ReducesTo [1] ⟨1, ![1024]⟩)
    (hS : 0 < (⟨0, ![]⟩ : Shape).numel) (r : Fin 1024) :
    Host.reduce FloatOps.maximumf x (constant (F := Ideal) ⟨0, ![]⟩ .f32 0xFF800000#32) hR hS (ix1 r) = top fun k : Fin 1024 => x (ix2 r k) := by
  unfold top
  pointwise [ofBits_neg_inf]

/-- The precondition of one block, at a row. -/
theorem pre_apply [Cert.Pre_finite_row_maxima_KernelIdeal.Facts] (x : FVec Ideal Cert.Pre_finite_row_maxima_KernelIdeal.S1024x1024 .f32) (r : Fin 1024) :
    Cert.Pre_finite_row_maxima_KernelIdeal.fn x (ix1 r)
      = IntOp.andi (BitVec.ofBool (decide (⊥ < top fun k : Fin 1024 => x (ix2 r k)))) (BitVec.ofBool (decide ((top fun k : Fin 1024 => x (ix2 r k)) < ⊤))) := by
  unfold Cert.Pre_finite_row_maxima_KernelIdeal.fn
  beta_reduce
  rw [both_apply, rowMax_apply, bcast_const, bcast_const, ofBits_neg_inf, ofBits_pos_inf]

/-- A conjunction of two bits is one only if both are. -/
theorem and_eq_one {a b : Bool} (h : IntOp.andi (BitVec.ofBool a) (BitVec.ofBool b) = 1#1) : a = true ∧ b = true := by
  revert a b; decide

/-- The precondition says that every row maximum of every block is finite. -/
theorem pre_rows [Cert.Pre_finite_row_maxima_KernelIdeal.Facts] (h : Cert.Pre_KernelIdeal_finite_row_maxima_KernelIdeal m) (d : Dev nD) (r : Fin 1024) :
    ⊥ < top (rowOf m d r) ∧ top (rowOf m d r) < ⊤ := by
  have h2 := and_eq_one ((pre_apply (m ((d : Thread nD τ).loc main_arg0)) r).symm.trans (congrFun (h d) (ix1 r)))
  simp only [decide_eq_true_eq] at h2
  exact h2

/-- The kernel's result on a device is the device's block of the reference's. -/
theorem outAt_eq_block [Cert.Pre_finite_row_maxima_KernelIdeal.Facts] (hpre : Cert.Pre_KernelIdeal_finite_row_maxima_KernelIdeal m)
    (X : FVec Ideal ReferenceIdeal.S1024x16384 .f32)
    (hX : ∀ c : Dev nD, m ((c : Thread nD τ).loc main_arg0) = Layout.block ⟨2, ![1024, 1024]⟩ ⟨2, ![1024, 16384]⟩ 1 16 c X) (c : Dev nD) :
    outAt m ρ c = Layout.block ⟨2, ![1024, 1024]⟩ ⟨2, ![1024, 16384]⟩ 1 16 c (refOut X) := by
  have hrow (d : Dev nD) (r : Fin 1024) : rowOf m d r = fun k => X (ix2 r (col (d, k))) := by
    funext k; unfold rowOf; rw [hX d, Layout.block_apply, block_idx]
  refine funext fun i => ?_
  obtain ⟨r, j, rfl⟩ : ∃ (r j : Fin 1024), i = ix2 r j := ⟨i 0, i 1, eq_ix2 i⟩
  have hq := block_quotient (fun d => rowOf m d r) (fun d => (pre_rows m hpre d r).1) (fun d => (pre_rows m hpre d r).2) c j
  rw [outAt_apply, Layout.block_apply, block_idx, refOut_apply, top_blocks col, sum_blocks col]
  refine hq.trans ?_
  have hrow' (d : Dev nD) (k : Fin 1024) : rowOf m d r k = X (ix2 r (col (d, k))) := congrFun (hrow d r) k
  simp only [hrow', hrow]

end Cert.KernelIdeal.Proto

end
-- ==== Proof.lean ====
/-
# The claim

The frames of the three programs, and that the kernel's result on every device is the device's block of the softmax the
reference computes. The run of the kernel is Proof/Ideal and Proof/Bits; the value is Proof/Ideal/Value.lean.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bits.Launch
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel terminates, leaves its operand and every counter as they were. -/
theorem frame_kernel : Cert.quiescent_Kernel (hKernel := Cert.Kernel.Gen.facts) := fun m g _ =>
  (θ_run _ _ _).mono (fun _ h => ⟨fun c => (h.1 c).2, h.2⟩) (Cert.Kernel.Proto.run_main m g)

/-- So does its idealization. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Proto.run_main m g)

/-- So does the reference, which has no counters. -/
theorem frame_reference : Cert.quiescent_ReferenceIdeal (hReferenceIdeal := Cert.ReferenceIdeal.Gen.facts) := fun m g _ =>
  (θ_run _ _ _).mono (fun _ h => ⟨fun c => (h c).2, funext fun s => nomatch s.2⟩) (Cert.ReferenceIdeal.Value.run m g)

/-- Every device's result is its block of the reference's result. -/
theorem value : Cert.algebraic_KernelIdeal_ReferenceIdeal_pre_finite_row_maxima_KernelIdeal (hKernelIdeal := Cert.KernelIdeal.Gen.facts)
    (hReferenceIdeal := Cert.ReferenceIdeal.Gen.facts) (hPre_finite_row_maxima_KernelIdeal := Cert.KernelIdeal.Proto.preFactsKernel) :=
  fun m g m' g' hpre hX => ⟨Cert.KernelIdeal.Proto.refOut (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (@Cert.KernelIdeal.Proto.outAt_eq_block m g Cert.KernelIdeal.Proto.preFactsKernel hpre _ hX c), (h.1 c).2⟩)
      (Cert.KernelIdeal.Proto.run_main m g),
    (θ_run _ _ _).mono (fun _ h => h 0) (Cert.ReferenceIdeal.Value.run m' g')⟩

/-- The certificate. -/
theorem claim : Cert.Claim :=
  ⟨Cert.Kernel.Gen.facts, Cert.KernelIdeal.Gen.facts, Cert.ReferenceIdeal.Gen.facts, Cert.KernelIdeal.Proto.preFactsKernel,
    Cert.KernelIdeal.Proto.preFactsReference, frame_kernel, frame_ideal, fun m g _ => frame_ideal m g trivial, frame_reference,
    fun m g _ => frame_reference m g trivial, trivial, value⟩

end Cert.Proof

end
